-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8x128x128x128 : Shape := ⟨5, ![1, 8, 128, 128, 128]⟩
abbrev S8x8x3x3x3 : Shape := ⟨5, ![8, 8, 3, 3, 3]⟩
abbrev S8 : Shape := ⟨1, ![8]⟩
abbrev S27x8x3x3x3 : Shape := ⟨5, ![27, 8, 3, 3, 3]⟩
abbrev S8x128x128x128 : Shape := ⟨4, ![8, 128, 128, 128]⟩
abbrev S8x16x128x128 : Shape := ⟨4, ![8, 16, 128, 128]⟩
abbrev S3x8x3x3x8 : Shape := ⟨5, ![3, 8, 3, 3, 8]⟩
abbrev S3x8x72 : Shape := ⟨3, ![3, 8, 72]⟩
abbrev S3x27x3x3x8 : Shape := ⟨5, ![3, 27, 3, 3, 8]⟩
abbrev S3x27x72 : Shape := ⟨3, ![3, 27, 72]⟩
abbrev S1x8 : Shape := ⟨2, ![1, 8]⟩
abbrev S8x1x128x128 : Shape := ⟨4, ![8, 1, 128, 128]⟩
abbrev S8x8x128x128 : Shape := ⟨4, ![8, 8, 128, 128]⟩
abbrev S3x72x128x128 : Shape := ⟨4, ![3, 72, 128, 128]⟩
abbrev S8x128x128 : Shape := ⟨3, ![8, 128, 128]⟩
abbrev S8x1x128 : Shape := ⟨3, ![8, 1, 128]⟩
abbrev S8x127x128 : Shape := ⟨3, ![8, 127, 128]⟩
abbrev S8x128x1 : Shape := ⟨3, ![8, 128, 1]⟩
abbrev S8x128x127 : Shape := ⟨3, ![8, 128, 127]⟩
abbrev S1x8x128x128 : Shape := ⟨4, ![1, 8, 128, 128]⟩
abbrev S1x8x72 : Shape := ⟨3, ![1, 8, 72]⟩
abbrev S8x72 : Shape := ⟨2, ![8, 72]⟩
abbrev S1x72x128x128 : Shape := ⟨4, ![1, 72, 128, 128]⟩
abbrev S72x128x128 : Shape := ⟨3, ![72, 128, 128]⟩
abbrev S1x128x128 : Shape := ⟨3, ![1, 128, 128]⟩
abbrev S128x128 : Shape := ⟨2, ![128, 128]⟩
abbrev S1x1 : Shape := ⟨2, ![1, 1]⟩
abbrev S1x1x128x128 : Shape := ⟨4, ![1, 1, 128, 128]⟩
abbrev S27x128x128x128 : Shape := ⟨4, ![27, 128, 128, 128]⟩
abbrev S27x8x128x128 : Shape := ⟨4, ![27, 8, 128, 128]⟩
abbrev S1x27x72 : Shape := ⟨3, ![1, 27, 72]⟩
abbrev S27x72 : Shape := ⟨2, ![27, 72]⟩
abbrev S27x128x128 : Shape := ⟨3, ![27, 128, 128]⟩
abbrev S27x1x128x128 : Shape := ⟨4, ![27, 1, 128, 128]⟩

abbrev nBuf : Space → Nat
  | .hbm => 28
  | .vmem => 69
  | .smem => 1
  | _ => 0

abbrev bufTy : (tb : Table) → Fin (tcTables nBuf tb) → BufTy
  | .hbm, ⟨0, _⟩ => ⟨S1x8x128x128x128, .f32⟩
  | .hbm, ⟨1, _⟩ => ⟨S8x8x3x3x3, .f32⟩
  | .hbm, ⟨2, _⟩ => ⟨S8, .f32⟩
  | .hbm, ⟨3, _⟩ => ⟨S27x8x3x3x3, .f32⟩
  | .hbm, ⟨4, _⟩ => ⟨S8x128x128x128, .f32⟩
  | .hbm, ⟨5, _⟩ => ⟨S8x16x128x128, .f32⟩
  | .hbm, ⟨6, _⟩ => ⟨S8x16x128x128, .f32⟩
  | .hbm, ⟨7, _⟩ => ⟨S3x8x3x3x8, .f32⟩
  | .hbm, ⟨8, _⟩ => ⟨S3x8x72, .f32⟩
  | .hbm, ⟨9, _⟩ => ⟨S3x8x72, .bf16⟩
  | .hbm, ⟨10, _⟩ => ⟨S3x27x3x3x8, .f32⟩
  | .hbm, ⟨11, _⟩ => ⟨S3x27x72, .f32⟩
  | .hbm, ⟨12, _⟩ => ⟨S3x27x72, .bf16⟩
  | .hbm, ⟨13, _⟩ => ⟨S1x8, .f32⟩
  | .hbm, ⟨14, _⟩ => ⟨S8x128x128x128, .f32⟩
  | .hbm, ⟨15, _⟩ => ⟨S8x16x128x128, .f32⟩
  | .hbm, ⟨16, _⟩ => ⟨S8x16x128x128, .f32⟩
  | .hbm, ⟨17, _⟩ => ⟨S27x128x128x128, .bf16⟩
  | .hbm, ⟨18, _⟩ => ⟨S8x128x128x128, .f32⟩
  | .hbm, ⟨19, _⟩ => ⟨S8x16x128x128, .f32⟩
  | .hbm, ⟨20, _⟩ => ⟨S8x16x128x128, .f32⟩
  | .hbm, ⟨21, _⟩ => ⟨S8x128x128x128, .f32⟩
  | .hbm, ⟨22, _⟩ => ⟨S8x16x128x128, .f32⟩
  | .hbm, ⟨23, _⟩ => ⟨S8x16x128x128, .f32⟩
  | .hbm, ⟨24, _⟩ => ⟨S8x128x128x128, .f32⟩
  | .hbm, ⟨25, _⟩ => ⟨S8x16x128x128, .f32⟩
  | .hbm, ⟨26, _⟩ => ⟨S8x16x128x128, .f32⟩
  | .hbm, ⟨27, _⟩ => ⟨S1x8x128x128x128, .f32⟩
  | .local _ .vmem, ⟨0, _⟩ => ⟨S8x1x128x128, .f32⟩
  | .local _ .vmem, ⟨1, _⟩ => ⟨S8x1x128x128, .f32⟩
  | .local _ .vmem, ⟨2, _⟩ => ⟨S8x8x128x128, .f32⟩
  | .local _ .vmem, ⟨3, _⟩ => ⟨S8x8x128x128, .f32⟩
  | .local _ .vmem, ⟨4, _⟩ => ⟨S8x1x128x128, .f32⟩
  | .local _ .vmem, ⟨5, _⟩ => ⟨S8x1x128x128, .f32⟩
  | .local _ .vmem, ⟨6, _⟩ => ⟨S3x8x72, .bf16⟩
  | .local _ .vmem, ⟨7, _⟩ => ⟨S8x8x128x128, .f32⟩
  | .local _ .vmem, ⟨8, _⟩ => ⟨S8x8x128x128, .f32⟩
  | .local _ .vmem, ⟨9, _⟩ => ⟨S8x1x128x128, .f32⟩
  | .local _ .vmem, ⟨10, _⟩ => ⟨S8x1x128x128, .f32⟩
  | .local _ .vmem, ⟨11, _⟩ => ⟨S8x1x128x128, .f32⟩
  | .local _ .vmem, ⟨12, _⟩ => ⟨S8x1x128x128, .f32⟩
  | .local _ .vmem, ⟨13, _⟩ => ⟨S3x72x128x128, .bf16⟩
  | .local _ .vmem, ⟨14, _⟩ => ⟨S8x1x128x128, .f32⟩
  | .local _ .vmem, ⟨15, _⟩ => ⟨S8x1x128x128, .f32⟩
  | .local _ .vmem, ⟨16, _⟩ => ⟨S8x8x128x128, .f32⟩
  | .local _ .vmem, ⟨17, _⟩ => ⟨S8x8x128x128, .f32⟩
  | .local _ .vmem, ⟨18, _⟩ => ⟨S8x1x128x128, .f32⟩
  | .local _ .vmem, ⟨19, _⟩ => ⟨S8x1x128x128, .f32⟩
  | .local _ .vmem, ⟨20, _⟩ => ⟨S3x27x72, .bf16⟩
  | .local _ .vmem, ⟨21, _⟩ => ⟨S27x8x128x128, .bf16⟩
  | .local _ .vmem, ⟨22, _⟩ => ⟨S27x8x128x128, .bf16⟩
  | .local _ .vmem, ⟨23, _⟩ => ⟨S3x72x128x128, .bf16⟩
  | .local _ .vmem, ⟨24, _⟩ => ⟨S8x1x128x128, .f32⟩
  | .local _ .vmem, ⟨25, _⟩ => ⟨S8x1x128x128, .f32⟩
  | .local _ .vmem, ⟨26, _⟩ => ⟨S8x8x128x128, .f32⟩
  | .local _ .vmem, ⟨27, _⟩ => ⟨S8x8x128x128, .f32⟩
  | .local _ .vmem, ⟨28, _⟩ => ⟨S8x1x128x128, .f32⟩
  | .local _ .vmem, ⟨29, _⟩ => ⟨S8x1x128x128, .f32⟩
  | .local _ .vmem, ⟨30, _⟩ => ⟨S27x8x128x128, .bf16⟩
  | .local _ .vmem, ⟨31, _⟩ => ⟨S27x8x128x128, .bf16⟩
  | .local _ .vmem, ⟨32, _⟩ => ⟨S8x8x128x128, .f32⟩
  | .local _ .vmem, ⟨33, _⟩ => ⟨S8x8x128x128, .f32⟩
  | .local _ .vmem, ⟨34, _⟩ => ⟨S8x1x128x128, .f32⟩
  | .local _ .vmem, ⟨35, _⟩ => ⟨S8x1x128x128, .f32⟩
  | .local _ .vmem, ⟨36, _⟩ => ⟨S8x1x128x128, .f32⟩
  | .local _ .vmem, ⟨37, _⟩ => ⟨S8x1x128x128, .f32⟩
  | .local _ .vmem, ⟨38, _⟩ => ⟨S3x72x128x128, .f32⟩
  | .local _ .vmem, ⟨39, _⟩ => ⟨S8x1x128x128, .f32⟩
  | .local _ .vmem, ⟨40, _⟩ => ⟨S8x1x128x128, .f32⟩
  | .local _ .vmem, ⟨41, _⟩ => ⟨S8x8x128x128, .f32⟩
  | .local _ .vmem, ⟨42, _⟩ => ⟨S8x8x128x128, .f32⟩
  | .local _ .vmem, ⟨43, _⟩ => ⟨S8x1x128x128, .f32⟩
  | .local _ .vmem, ⟨44, _⟩ => ⟨S8x1x128x128, .f32⟩
  | .local _ .vmem, ⟨45, _⟩ => ⟨S27x8x128x128, .bf16⟩
  | .local _ .vmem, ⟨46, _⟩ => ⟨S27x8x128x128, .bf16⟩
  | .local _ .vmem, ⟨47, _⟩ => ⟨S8x8x128x128, .f32⟩
  | .local _ .vmem, ⟨48, _⟩ => ⟨S8x8x128x128, .f32⟩
  | .local _ .vmem, ⟨49, _⟩ => ⟨S8x1x128x128, .f32⟩
  | .local _ .vmem, ⟨50, _⟩ => ⟨S8x1x128x128, .f32⟩
  | .local _ .vmem, ⟨51, _⟩ => ⟨S8x1x128x128, .f32⟩
  | .local _ .vmem, ⟨52, _⟩ => ⟨S8x1x128x128, .f32⟩
  | .local _ .vmem, ⟨53, _⟩ => ⟨S3x72x128x128, .f32⟩
  | .local _ .vmem, ⟨54, _⟩ => ⟨S8x1x128x128, .f32⟩
  | .local _ .vmem, ⟨55, _⟩ => ⟨S8x1x128x128, .f32⟩
  | .local _ .vmem, ⟨56, _⟩ => ⟨S8x8x128x128, .f32⟩
  | .local _ .vmem, ⟨57, _⟩ => ⟨S8x8x128x128, .f32⟩
  | .local _ .vmem, ⟨58, _⟩ => ⟨S8x1x128x128, .f32⟩
  | .local _ .vmem, ⟨59, _⟩ => ⟨S8x1x128x128, .f32⟩
  | .local _ .vmem, ⟨60, _⟩ => ⟨S27x8x128x128, .bf16⟩
  | .local _ .vmem, ⟨61, _⟩ => ⟨S27x8x128x128, .bf16⟩
  | .local _ .vmem, ⟨62, _⟩ => ⟨S8x8x128x128, .f32⟩
  | .local _ .vmem, ⟨63, _⟩ => ⟨S8x8x128x128, .f32⟩
  | .local _ .vmem, ⟨64, _⟩ => ⟨S8x1x128x128, .f32⟩
  | .local _ .vmem, ⟨65, _⟩ => ⟨S8x1x128x128, .f32⟩
  | .local _ .vmem, ⟨66, _⟩ => ⟨S8x1x128x128, .f32⟩
  | .local _ .vmem, ⟨67, _⟩ => ⟨S8x1x128x128, .f32⟩
  | .local _ .vmem, ⟨68, _⟩ => ⟨S3x72x128x128, .f32⟩
  | .local _ .smem, ⟨0, _⟩ => ⟨S1x8, .f32⟩
  | _, _ => ⟨S1x8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .smem, ⟨0, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_scratch0 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg4_1 : Ref sig .tc := ⟨.vmem, 48, rfl⟩
abbrev cc3_stg5_0 : Ref sig .tc := ⟨.vmem, 49, rfl⟩
abbrev cc3_stg5_1 : Ref sig .tc := ⟨.vmem, 50, rfl⟩
abbrev cc3_stg6_0 : Ref sig .tc := ⟨.vmem, 51, rfl⟩
abbrev cc3_stg6_1 : Ref sig .tc := ⟨.vmem, 52, rfl⟩
abbrev cc3_scratch0 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg2_1 : Ref sig .tc := ⟨.vmem, 59, rfl⟩
abbrev cc4_stg3_0 : Ref sig .tc := ⟨.vmem, 60, rfl⟩
abbrev cc4_stg3_1 : Ref sig .tc := ⟨.vmem, 61, rfl⟩
abbrev cc4_stg4_0 : Ref sig .tc := ⟨.vmem, 62, rfl⟩
abbrev cc4_stg4_1 : Ref sig .tc := ⟨.vmem, 63, rfl⟩
abbrev cc4_stg5_0 : Ref sig .tc := ⟨.vmem, 64, rfl⟩
abbrev cc4_stg5_1 : Ref sig .tc := ⟨.vmem, 65, rfl⟩
abbrev cc4_stg6_0 : Ref sig .tc := ⟨.vmem, 66, rfl⟩
abbrev cc4_stg6_1 : Ref sig .tc := ⟨.vmem, 67, rfl⟩
abbrev cc4_scratch0 : Ref sig .tc := ⟨.vmem, 68, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34
abbrev cc2_sem6_0 : DmaSem sig := 35
abbrev cc2_sem6_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem3_1 : DmaSem sig := 44
abbrev cc3_sem4_0 : DmaSem sig := 45
abbrev cc3_sem4_1 : DmaSem sig := 46
abbrev cc3_sem5_0 : DmaSem sig := 47
abbrev cc3_sem5_1 : DmaSem sig := 48
abbrev cc3_sem6_0 : DmaSem sig := 49
abbrev cc3_sem6_1 : DmaSem sig := 50
abbrev cc4_sem0_0 : DmaSem sig := 51
abbrev cc4_sem0_1 : DmaSem sig := 52
abbrev cc4_sem1_0 : DmaSem sig := 53
abbrev cc4_sem1_1 : DmaSem sig := 54
abbrev cc4_sem2_0 : DmaSem sig := 55
abbrev cc4_sem2_1 : DmaSem sig := 56
abbrev cc4_sem3_0 : DmaSem sig := 57
abbrev cc4_sem3_1 : DmaSem sig := 58
abbrev cc4_sem4_0 : DmaSem sig := 59
abbrev cc4_sem4_1 : DmaSem sig := 60
abbrev cc4_sem5_0 : DmaSem sig := 61
abbrev cc4_sem5_1 : DmaSem sig := 62
abbrev cc4_sem6_0 : DmaSem sig := 63
abbrev cc4_sem6_1 : DmaSem sig := 64

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x8x72 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 4 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S8x1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x8x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x27x72 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S27x8x128x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_2 (i : grid2.Coords) : Fin 4 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_6 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage2_0 : Fin 2 → Memref sig .tc .vmem S8x1x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x8x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x1x128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S27x8x128x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S8x8x128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8x1x128x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x1x128x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![16], ![false]⟩

def cc3_transform_0 (i : grid3.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_2 (i : grid3.Coords) : Fin 4 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_4 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_5 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_6 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage3_0 : Fin 2 → Memref sig .tc .vmem S8x1x128x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x8x128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8x1x128x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S27x8x128x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8x8x128x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S8x1x128x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S8x1x128x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![16], ![false]⟩

def cc4_transform_0 (i : grid4.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![c0_i32_0.toNat, v1.toNat, c0_i32_1.toNat, c0_i32_2.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc4_transform_2 (i : grid4.Coords) : Fin 4 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc4_transform_4 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc4_transform_5 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc4_transform_6 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage4_0 : Fin 2 → Memref sig .tc .vmem S8x1x128x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8x8x128x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8x1x128x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S27x8x128x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8x8x128x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S8x1x128x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S8x1x128x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]
-- ==== ReferenceIdeal.lean ====
abbrev S1x8x128x128x128 : Shape := ⟨5, ![1, 8, 128, 128, 128]⟩
abbrev S8x8x3x3x3 : Shape := ⟨5, ![8, 8, 3, 3, 3]⟩
abbrev S8 : Shape := ⟨1, ![8]⟩
abbrev S27x8x3x3x3 : Shape := ⟨5, ![27, 8, 3, 3, 3]⟩
abbrev S8x128x128x128 : Shape := ⟨4, ![8, 128, 128, 128]⟩
abbrev S_ : Shape := ⟨0, ![]⟩
abbrev S8x130x130x130 : Shape := ⟨4, ![8, 130, 130, 130]⟩
abbrev S8x130x130x128 : Shape := ⟨4, ![8, 130, 130, 128]⟩
abbrev S1x8x130x130x128 : Shape := ⟨5, ![1, 8, 130, 130, 128]⟩
abbrev S3x8x130x130x128 : Shape := ⟨5, ![3, 8, 130, 130, 128]⟩
abbrev S3x8x130x128x128 : Shape := ⟨5, ![3, 8, 130, 128, 128]⟩
abbrev S1x3x8x130x128x128 : Shape := ⟨6, ![1, 3, 8, 130, 128, 128]⟩
abbrev S3x3x8x130x128x128 : Shape := ⟨6, ![3, 3, 8, 130, 128, 128]⟩
abbrev S3x3x8x128x128x128 : Shape := ⟨6, ![3, 3, 8, 128, 128, 128]⟩
abbrev S1x3x3x8x128x128x128 : Shape := ⟨7, ![1, 3, 3, 8, 128, 128, 128]⟩
abbrev S3x3x3x8x128x128x128 : Shape := ⟨7, ![3, 3, 3, 8, 128, 128, 128]⟩
abbrev S8x1x1x1 : Shape := ⟨4, ![8, 1, 1, 1]⟩
abbrev S27x128x128x128 : Shape := ⟨4, ![27, 128, 128, 128]⟩
abbrev S128x128x128 : Shape := ⟨3, ![128, 128, 128]⟩
abbrev S1x128x128x128 : Shape := ⟨4, ![1, 128, 128, 128]⟩
abbrev S3x3x3x1x128x128x128 : Shape := ⟨7, ![3, 3, 3, 1, 128, 128, 128]⟩

abbrev nBuf : Space → Nat
  | .hbm => 158
  | .vmem => 0
  | .smem => 0
  | _ => 0

abbrev hbmTy0_0 (i : Nat) : BufTy := match i % 128 with
  | 0 => ⟨S1x8x128x128x128, .f32⟩
  | 1 => ⟨S8x8x3x3x3, .f32⟩
  | 2 => ⟨S8, .f32⟩
  | 3 => ⟨S27x8x3x3x3, .f32⟩
  | 4 => ⟨S8x128x128x128, .f32⟩
  | 5 => ⟨S_, .i32⟩
  | 6 => ⟨S_, .f32⟩
  | 7 => ⟨S8x130x130x130, .f32⟩
  | 8 => ⟨S8x130x130x128, .f32⟩
  | 9 => ⟨S8x130x130x128, .f32⟩
  | 10 => ⟨S8x130x130x128, .f32⟩
  | 11 => ⟨S1x8x130x130x128, .f32⟩
  | 12 => ⟨S1x8x130x130x128, .f32⟩
  | 13 => ⟨S1x8x130x130x128, .f32⟩
  | 14 => ⟨S3x8x130x130x128, .f32⟩
  | 15 => ⟨S3x8x130x128x128, .f32⟩
  | 16 => ⟨S3x8x130x128x128, .f32⟩
  | 17 => ⟨S3x8x130x128x128, .f32⟩
  | 18 => ⟨S1x3x8x130x128x128, .f32⟩
  | 19 => ⟨S1x3x8x130x128x128, .f32⟩
  | 20 => ⟨S1x3x8x130x128x128, .f32⟩
  | 21 => ⟨S3x3x8x130x128x128, .f32⟩
  | 22 => ⟨S3x3x8x128x128x128, .f32⟩
  | 23 => ⟨S3x3x8x128x128x128, .f32⟩
  | 24 => ⟨S3x3x8x128x128x128, .f32⟩
  | 25 => ⟨S1x3x3x8x128x128x128, .f32⟩
  | 26 => ⟨S1x3x3x8x128x128x128, .f32⟩
  | 27 => ⟨S1x3x3x8x128x128x128, .f32⟩
  | 28 => ⟨S3x3x3x8x128x128x128, .f32⟩
  | 29 => ⟨S8x128x128x128, .f32⟩
  | 30 => ⟨S8x1x1x1, .f32⟩
  | 31 => ⟨S8x128x128x128, .f32⟩
  | 32 => ⟨S8x128x128x128, .f32⟩
  | 33 => ⟨S_, .f32⟩
  | 34 => ⟨S8x128x128x128, .f32⟩
  | 35 => ⟨S8x128x128x128, .f32⟩
  | 36 => ⟨S_, .i32⟩
  | 37 => ⟨S_, .f32⟩
  | 38 => ⟨S8x130x130x130, .f32⟩
  | 39 => ⟨S8x130x130x128, .f32⟩
  | 40 => ⟨S8x130x130x128, .f32⟩
  | 41 => ⟨S8x130x130x128, .f32⟩
  | 42 => ⟨S1x8x130x130x128, .f32⟩
  | 43 => ⟨S1x8x130x130x128, .f32⟩
  | 44 => ⟨S1x8x130x130x128, .f32⟩
  | 45 => ⟨S3x8x130x130x128, .f32⟩
  | 46 => ⟨S3x8x130x128x128, .f32⟩
  | 47 => ⟨S3x8x130x128x128, .f32⟩
  | 48 => ⟨S3x8x130x128x128, .f32⟩
  | 49 => ⟨S1x3x8x130x128x128, .f32⟩
  | 50 => ⟨S1x3x8x130x128x128, .f32⟩
  | 51 => ⟨S1x3x8x130x128x128, .f32⟩
  | 52 => ⟨S3x3x8x130x128x128, .f32⟩
  | 53 => ⟨S3x3x8x128x128x128, .f32⟩
  | 54 => ⟨S3x3x8x128x128x128, .f32⟩
  | 55 => ⟨S3x3x8x128x128x128, .f32⟩
  | 56 => ⟨S1x3x3x8x128x128x128, .f32⟩
  | 57 => ⟨S1x3x3x8x128x128x128, .f32⟩
  | 58 => ⟨S1x3x3x8x128x128x128, .f32⟩
  | 59 => ⟨S3x3x3x8x128x128x128, .f32⟩
  | 60 => ⟨S27x128x128x128, .f32⟩
  | 61 => ⟨S27x128x128x128, .f32⟩
  | 62 => ⟨S_, .f32⟩
  | 63 => ⟨S128x128x128, .f32⟩
  | 64 => ⟨S1x128x128x128, .f32⟩
  | 65 => ⟨S_, .f32⟩
  | 66 => ⟨S1x128x128x128, .f32⟩
  | 67 => ⟨S1x128x128x128, .f32⟩
  | 68 => ⟨S27x128x128x128, .f32⟩
  | 69 => ⟨S27x128x128x128, .f32⟩
  | 70 => ⟨S_, .i32⟩
  | 71 => ⟨S_, .f32⟩
  | 72 => ⟨S8x130x130x130, .f32⟩
  | 73 => ⟨S8x130x130x128, .f32⟩
  | 74 => ⟨S8x130x130x128, .f32⟩
  | 75 => ⟨S8x130x130x128, .f32⟩
  | 76 => ⟨S1x8x130x130x128, .f32⟩
  | 77 => ⟨S1x8x130x130x128, .f32⟩
  | 78 => ⟨S1x8x130x130x128, .f32⟩
  | 79 => ⟨S3x8x130x130x128, .f32⟩
  | 80 => ⟨S3x8x130x128x128, .f32⟩
  | 81 => ⟨S3x8x130x128x128, .f32⟩
  | 82 => ⟨S3x8x130x128x128, .f32⟩
  | 83 => ⟨S1x3x8x130x128x128, .f32⟩
  | 84 => ⟨S1x3x8x130x128x128, .f32⟩
  | 85 => ⟨S1x3x8x130x128x128, .f32⟩
  | 86 => ⟨S3x3x8x130x128x128, .f32⟩
  | 87 => ⟨S3x3x8x128x128x128, .f32⟩
  | 88 => ⟨S3x3x8x128x128x128, .f32⟩
  | 89 => ⟨S3x3x8x128x128x128, .f32⟩
  | 90 => ⟨S1x3x3x8x128x128x128, .f32⟩
  | 91 => ⟨S1x3x3x8x128x128x128, .f32⟩
  | 92 => ⟨S1x3x3x8x128x128x128, .f32⟩
  | 93 => ⟨S3x3x3x8x128x128x128, .f32⟩
  | 94 => ⟨S3x3x3x1x128x128x128, .f32⟩
  | 95 => ⟨S3x3x3x8x128x128x128, .f32⟩
  | 96 => ⟨S3x3x3x8x128x128x128, .f32⟩
  | 97 => ⟨S_, .f32⟩
  | 98 => ⟨S8x128x128x128, .f32⟩
  | 99 => ⟨S_, .i32⟩
  | 100 => ⟨S_, .f32⟩
  | 101 => ⟨S8x130x130x130, .f32⟩
  | 102 => ⟨S8x130x130x128, .f32⟩
  | 103 => ⟨S8x130x130x128, .f32⟩
  | 104 => ⟨S8x130x130x128, .f32⟩
  | 105 => ⟨S1x8x130x130x128, .f32⟩
  | 106 => ⟨S1x8x130x130x128, .f32⟩
  | 107 => ⟨S1x8x130x130x128, .f32⟩
  | 108 => ⟨S3x8x130x130x128, .f32⟩
  | 109 => ⟨S3x8x130x128x128, .f32⟩
  | 110 => ⟨S3x8x130x128x128, .f32⟩
  | 111 => ⟨S3x8x130x128x128, .f32⟩
  | 112 => ⟨S1x3x8x130x128x128, .f32⟩
  | 113 => ⟨S1x3x8x130x128x128, .f32⟩
  | 114 => ⟨S1x3x8x130x128x128, .f32⟩
  | 115 => ⟨S3x3x8x130x128x128, .f32⟩
  | 116 => ⟨S3x3x8x128x128x128, .f32⟩
  | 117 => ⟨S3x3x8x128x128x128, .f32⟩
  | 118 => ⟨S3x3x8x128x128x128, .f32⟩
  | 119 => ⟨S1x3x3x8x128x128x128, .f32⟩
  | 120 => ⟨S1x3x3x8x128x128x128, .f32⟩
  | 121 => ⟨S1x3x3x8x128x128x128, .f32⟩
  | 122 => ⟨S3x3x3x8x128x128x128, .f32⟩
  | 123 => ⟨S3x3x3x1x128x128x128, .f32⟩
  | 124 => ⟨S3x3x3x8x128x128x128, .f32⟩
  | 125 => ⟨S3x3x3x8x128x128x128, .f32⟩
  | 126 => ⟨S_, .f32⟩
  | 127 => ⟨S8x128x128x128, .f32⟩
  | _ => ⟨S1x8x128x128x128, .f32⟩

abbrev hbmTy0_1 (i : Nat) : BufTy := match i % 128 with
  | 0 => ⟨S_, .i32⟩
  | 1 => ⟨S_, .f32⟩
  | 2 => ⟨S8x130x130x130, .f32⟩
  | 3 => ⟨S8x130x130x128, .f32⟩
  | 4 => ⟨S8x130x130x128, .f32⟩
  | 5 => ⟨S8x130x130x128, .f32⟩
  | 6 => ⟨S1x8x130x130x128, .f32⟩
  | 7 => ⟨S1x8x130x130x128, .f32⟩
  | 8 => ⟨S1x8x130x130x128, .f32⟩
  | 9 => ⟨S3x8x130x130x128, .f32⟩
  | 10 => ⟨S3x8x130x128x128, .f32⟩
  | 11 => ⟨S3x8x130x128x128, .f32⟩
  | 12 => ⟨S3x8x130x128x128, .f32⟩
  | 13 => ⟨S1x3x8x130x128x128, .f32⟩
  | 14 => ⟨S1x3x8x130x128x128, .f32⟩
  | 15 => ⟨S1x3x8x130x128x128, .f32⟩
  | 16 => ⟨S3x3x8x130x128x128, .f32⟩
  | 17 => ⟨S3x3x8x128x128x128, .f32⟩
  | 18 => ⟨S3x3x8x128x128x128, .f32⟩
  | 19 => ⟨S3x3x8x128x128x128, .f32⟩
  | 20 => ⟨S1x3x3x8x128x128x128, .f32⟩
  | 21 => ⟨S1x3x3x8x128x128x128, .f32⟩
  | 22 => ⟨S1x3x3x8x128x128x128, .f32⟩
  | 23 => ⟨S3x3x3x8x128x128x128, .f32⟩
  | 24 => ⟨S3x3x3x1x128x128x128, .f32⟩
  | 25 => ⟨S3x3x3x8x128x128x128, .f32⟩
  | 26 => ⟨S3x3x3x8x128x128x128, .f32⟩
  | 27 => ⟨S_, .f32⟩
  | 28 => ⟨S8x128x128x128, .f32⟩
  | 29 => ⟨S1x8x128x128x128, .f32⟩
  | _ => ⟨S1x8x128x128x128, .f32⟩

abbrev hbmTy (i : Nat) : BufTy := match i / 128 with
  | 0 => hbmTy0_0 i
  | 1 => hbmTy0_1 i
  | _ => ⟨S1x8x128x128x128, .f32⟩

abbrev bufTy : (tb : Table) → Fin (tcTables nBuf tb) → BufTy
  | .hbm, ⟨i, _⟩ => hbmTy i
  | _, _ => ⟨S1x8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call1_cst : Ref sig .tc := ⟨.hbm, 33, rfl⟩
abbrev main_call1_v0 : Ref sig .tc := ⟨.hbm, 34, rfl⟩
abbrev main_v27 : Ref sig .tc := ⟨.hbm, 35, rfl⟩
abbrev main_c_0 : Ref sig .tc := ⟨.hbm, 36, rfl⟩
abbrev main_call2_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst : Ref sig .tc := ⟨.hbm, 62, rfl⟩
abbrev main_v52 : Ref sig .tc := ⟨.hbm, 63, rfl⟩
abbrev main_v53 : Ref sig .tc := ⟨.hbm, 64, rfl⟩
abbrev main_cst_1 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_c_2 : Ref sig .tc := ⟨.hbm, 70, rfl⟩
abbrev main_call3_v0 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_3 : Ref sig .tc := ⟨.hbm, 97, rfl⟩
abbrev main_v83 : Ref sig .tc := ⟨.hbm, 98, rfl⟩
abbrev main_c_4 : Ref sig .tc := ⟨.hbm, 99, rfl⟩
abbrev main_call4_v0 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_cst_5 : Ref sig .tc := ⟨.hbm, 126, rfl⟩
abbrev main_v109 : Ref sig .tc := ⟨.hbm, 127, rfl⟩
abbrev main_c_6 : Ref sig .tc := ⟨.hbm, 128, rfl⟩
abbrev main_call5_v0 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_cst_7 : Ref sig .tc := ⟨.hbm, 155, rfl⟩
abbrev main_v135 : Ref sig .tc := ⟨.hbm, 156, rfl⟩
abbrev main_v136 : Ref sig .tc := ⟨.hbm, 157, rfl⟩

abbrev nD : Nat := 1
abbrev τ : Topo := Topo.v7x

variable {F : FTy → Type} [FloatOps F]
-- ==== Proof.Body.lean ====
module

public import Idealize.ShloMosaic.Lib.Pipeline
public import Idealize.ShloMosaic.Lib.Scf
public import Idealize.ShloMosaic.Lib.Sig
public import Idealize.ShloMosaic.Lib.StableHlo
public import Idealize.ShloMosaic.PureOps

/-!
# The kernel's three bodies as loops

The printed bodies are straight lines: every loop of the kernel over slabs, shifts, taps and channels is written
out. Here the same three bodies are written as loops, so that one invariant per loop proves them. The definitions
name no signature and no float instance: they serve the kernel over the machine's floats and over the reals alike.
-/

@[expose] public section

noncomputable section

namespace Cert.Own

open Idealize.ShloMosaic Idealize.SL.Sem

/-! ## Shapes -/

/-- Eight channels of one plane. -/
abbrev Sv : Shape := ⟨3, ![8, 128, 128]⟩
/-- One plane. -/
abbrev Sp : Shape := ⟨2, ![128, 128]⟩
/-- The ring: three slots of 72 rows (nine shifts of eight channels), a plane each. -/
abbrev Sg : Shape := ⟨4, ![3, 72, 128, 128]⟩
/-- One slot's rows of one shift. -/
abbrev Sg8 : Shape := ⟨4, ![1, 8, 128, 128]⟩
/-- One slot. -/
abbrev Sg72 : Shape := ⟨4, ![1, 72, 128, 128]⟩
/-- One row of `n` channels of one plane. -/
abbrev Sr1 : Shape := ⟨4, ![1, 1, 128, 128]⟩
/-- A block of `n` channels and `d` planes. -/
abbrev Sb (n d : Nat) : Shape := ⟨4, ![n, d, 128, 128]⟩

variable {nD : Nat} {τ : Topo} {sig : RefSig} {Λ : Labels} {F : FTy → Type} [FloatOps F]

/-- A program of the tensor core. -/
abbrev Pr (nD : Nat) (τ : Topo) (sig : RefSig) (Λ : Labels) (F : FTy → Type) (α : Type) :=
  Prog (TpuEff nD τ sig (Elt F) Λ .tc) α

/-! ## Loops -/

/-- Run `f 0`, `f 1`, …, handing each one's result to the next. -/
def loop {E : Type → Type} {α : Type} : (n : Nat) → (Fin n → α → Prog E α) → α → Prog E α
  | 0, _, a => .ret a
  | n + 1, f, a => (f 0 a).bind (loop n (fun i => f i.succ))

/-- Run `f 0`, `f 1`, … and keep all results. -/
def gather {E : Type → Type} {α : Type} : (n : Nat) → (Fin n → Prog E α) → Prog E (Fin n → α)
  | 0, _ => .ret (fun i => i.elim0)
  | n + 1, f => (f 0).bind fun x => (gather n (fun i => f i.succ)).bind fun xs => .ret (Fin.cons x xs)

/-! ## One memory operation -/

/-- Load the rectangle `r` of `m`. -/
def ld {s : Shape} {e : EltTy} (m : Memref sig .tc .vmem s e) (r : Rect s) (h : 0 < r.shape.numel) :
    Pr nD τ sig Λ F (r.shape.Idx → Elt F e) :=
  .op (.load m r.toLoadRect (View.loadsAt_vmem h)) .ret

/-- Store the rectangle `r` of `m`. -/
def st {s : Shape} {e : EltTy} (m : Memref sig .tc .vmem s e) (r : Rect s) (w : r.shape.Idx → Elt F e)
    (h : (m.access r).Stores Finset.univ) : Pr nD τ sig Λ F PUnit :=
  .op (.store m r w Finset.univ h (.inl rfl)) .ret

/-! ## Rectangles -/

/-- The rows of shift `k` in slot `a` of the ring. -/
abbrev shiftRect (a : Fin 3) (k : Fin 9) : Rect Sg :=
  Rect.unit (s := Sg) ![a.val, 8 * k.val, 0, 0] Sg8.size (by
    intro j; have := a.isLt; have := k.isLt; fin_cases j <;> simp <;> omega)

/-- One row of slot `a` of the ring. -/
abbrev rowRect (a : Fin 3) (r : Fin 72) : Rect Sg :=
  Rect.unit (s := Sg) ![a.val, r.val, 0, 0] Sr1.size (by
    intro j; have := a.isLt; have := r.isLt; fin_cases j <;> simp <;> omega)

/-- Slot `a` of the ring. -/
abbrev slotRect (a : Fin 3) : Rect Sg :=
  Rect.unit (s := Sg) ![a.val, 0, 0, 0] Sg72.size (by
    intro j; have := a.isLt; fin_cases j <;> simp <;> omega)

/-- Plane `z` of every channel of a block. -/
abbrev planeRect (n d : Nat) (z : Fin d) : Rect (Sb n d) :=
  Rect.unit (s := Sb n d) ![0, z.val, 0, 0] (Sb n 1).size (by
    intro j; have := z.isLt; fin_cases j <;> simp; omega)

/-- Plane `z` of channel `c` of a block. -/
abbrev cellRect (n d : Nat) (c : Fin n) (z : Fin d) : Rect (Sb n d) :=
  Rect.unit (s := Sb n d) ![c.val, z.val, 0, 0] Sr1.size (by
    intro j; have := z.isLt; have := c.isLt; fin_cases j <;> simp <;> omega)

/-! ## The nine shifts of a slab -/

/-- The zero of the padding. -/
abbrev zf : F .f32 := Scalar.ofBits .f32 0x00000000#32

/-- A slab moved by one row down (`0`), not at all (`1`), up (`2`), zeros moving in. -/
def shY (d : Nat) (v : FVec F Sv .f32) : FVec F Sv .f32 :=
  if d = 0 then
    concatenate Sv 1 [⟨⟨3, ![8, 1, 128]⟩, broadcast ⟨3, ![8, 1, 128]⟩ zf⟩,
      ⟨⟨3, ![8, 127, 128]⟩, extractStridedSlice ⟨3, ![8, 127, 128]⟩ ![0, 0, 0] v (by decide)⟩]
      (show Shape.Concatenates [⟨3, ![8, 1, 128]⟩, ⟨3, ![8, 127, 128]⟩] Sv 1 by decide)
  else if d = 1 then v
  else
    concatenate Sv 1 [⟨⟨3, ![8, 127, 128]⟩, extractStridedSlice ⟨3, ![8, 127, 128]⟩ ![0, 1, 0] v (by decide)⟩,
      ⟨⟨3, ![8, 1, 128]⟩, broadcast ⟨3, ![8, 1, 128]⟩ zf⟩]
      (show Shape.Concatenates [⟨3, ![8, 127, 128]⟩, ⟨3, ![8, 1, 128]⟩] Sv 1 by decide)

/-- A slab moved by one lane right (`0`), not at all (`1`), left (`2`), zeros moving in. -/
def shX (d : Nat) (v : FVec F Sv .f32) : FVec F Sv .f32 :=
  if d = 0 then
    concatenate Sv 2 [⟨⟨3, ![8, 128, 1]⟩, broadcast ⟨3, ![8, 128, 1]⟩ zf⟩,
      ⟨⟨3, ![8, 128, 127]⟩, extractStridedSlice ⟨3, ![8, 128, 127]⟩ ![0, 0, 0] v (by decide)⟩]
      (show Shape.Concatenates [⟨3, ![8, 128, 1]⟩, ⟨3, ![8, 128, 127]⟩] Sv 2 by decide)
  else if d = 1 then v
  else
    concatenate Sv 2 [⟨⟨3, ![8, 128, 127]⟩, extractStridedSlice ⟨3, ![8, 128, 127]⟩ ![0, 0, 1] v (by decide)⟩,
      ⟨⟨3, ![8, 128, 1]⟩, broadcast ⟨3, ![8, 128, 1]⟩ zf⟩]
      (show Shape.Concatenates [⟨3, ![8, 128, 127]⟩, ⟨3, ![8, 128, 1]⟩] Sv 2 by decide)

/-- Shift `k` of a slab: `k / 3` along the rows, `k % 3` along the lanes. -/
def shift (k : Nat) (v : FVec F Sv .f32) : FVec F Sv .f32 := shX (k % 3) (shY (k / 3) v)

/-! ## The slabs -/

/-- A loaded plane of eight channels as a slab. -/
def slabOf (x : FVec F (Sb 8 1) .f32) : FVec F Sv .f32 := shapeCast Sv x (by decide)

/-- A halo slab: one where the bit is set, zero otherwise, times the loaded plane. -/
def haloOf (b : BitVec 1) (x : FVec F (Sb 8 1) .f32) : FVec F Sv .f32 :=
  mulf (slabOf x) (broadcast Sv (Scalar.select b (Scalar.ofBits .f32 0x3F800000#32) zf))

/-- The bit saying that the block is not the first. -/
abbrev bitLo (a : BitVec 32) : BitVec 1 := Scalar.cmpi .sgt a 0#32
/-- The bit saying that the block is not the last. -/
abbrev bitHi (a : BitVec 32) : BitVec 1 := Scalar.cmpi .slt a 15#32

section Slabs
variable (a : BitVec 32) (lo : Memref sig .tc .vmem (Sb 8 1) .f32) (cu : Memref sig .tc .vmem (Sb 8 8) .f32)
  (hi : Memref sig .tc .vmem (Sb 8 1) .f32)

/-- Load slab 0: the last plane of the block before. -/
def slabLo : Pr nD τ sig Λ F (FVec F Sv .f32) :=
  (ld lo (planeRect 8 1 0) (show 0 < (Sb 8 1).numel by decide)).bind fun x => .ret (haloOf (bitLo a) x)

/-- Load a slab of the block itself. -/
def slabCu (z : Fin 8) : Pr nD τ sig Λ F (FVec F Sv .f32) :=
  (ld cu (planeRect 8 8 z) (show 0 < (Sb 8 1).numel by decide)).bind fun x => .ret (slabOf x)

/-- Load slab 9: the first plane of the block after. -/
def slabHi : Pr nD τ sig Λ F (FVec F Sv .f32) :=
  (ld hi (planeRect 8 1 0) (show 0 < (Sb 8 1).numel by decide)).bind fun x => .ret (haloOf (bitHi a) x)

/-- Load the slab two after `z`. -/
def slabNext (z : Fin 8) : Pr nD τ sig Λ F (FVec F Sv .f32) :=
  if h : z.val < 7 then slabCu cu ⟨z.val + 1, by omega⟩ else slabHi a hi
end Slabs

/-! ## Filling a slot of the ring -/

section Ring
variable {e : EltTy} (cv : FVec F Sv .f32 → Sv.Idx → Elt F e) (g : Memref sig .tc .vmem Sg e)
  (hg : ∀ a k, (g.access (shiftRect a k)).Stores Finset.univ)

/-- Store the nine shifts of a slab in slot `a`. Each store follows a load of what it overwrites. -/
def fill (a : Fin 3) (v : FVec F Sv .f32) : Pr nD τ sig Λ F PUnit :=
  loop 9 (fun k _ =>
    (ld g (shiftRect a k) (show 0 < Sg8.numel by decide)).bind fun _ =>
      st g (shiftRect a k) (shapeCast (s := Sv) Sg8 (cv (shift k.val v)) (by decide)) (hg a k)) PUnit.unit

/-- The slot of slab `s`. -/
abbrev slot (s : Nat) : Fin 3 := ⟨s % 3, Nat.mod_lt _ (by omega)⟩

/-- The loop over slabs common to the three bodies: two slabs first, then one more before each output plane. -/
def overSlabs (a : BitVec 32) (lo : Memref sig .tc .vmem (Sb 8 1) .f32) (cu : Memref sig .tc .vmem (Sb 8 8) .f32)
    (hi : Memref sig .tc .vmem (Sb 8 1) .f32) (out : Fin 8 → Pr nD τ sig Λ F PUnit) : Pr nD τ sig Λ F PUnit :=
  (slabLo a lo).bind fun v0 => (fill cv g hg 0 v0).bind fun _ =>
  (slabCu cu 0).bind fun v1 => (fill cv g hg 1 v1).bind fun _ =>
  loop 8 (fun z _ =>
    (slabNext a cu hi z).bind fun v => (fill cv g hg (slot (z.val + 2)) v).bind fun _ => out z) ⟨⟩
end Ring

/-! ## Output planes -/

section Out
variable (o : Memref sig .tc .vmem (Sb 8 8) .f32) (ol oh : Memref sig .tc .vmem (Sb 8 1) .f32)

/-- Store one plane of one channel of an output block, after a load of what it overwrites. -/
def put {n d : Nat} (o : Memref sig .tc .vmem (Sb n d) .f32) (c : Fin n) (z : Fin d) (v : FVec F Sp .f32) :
    Pr nD τ sig Λ F PUnit :=
  (ld o (cellRect n d c z) (show 0 < Sr1.numel by decide)).bind fun _ =>
    st o (cellRect n d c z) (shapeCast Sr1 v (by decide))
      (View.stores_vmem_bits_univ (show 0 < Sr1.numel by decide) rfl)

/-- Store plane `z` of channel `c`, and copy the first and the last plane to the halo outputs. -/
def putAll (z : Fin 8) (c : Fin 8) (v : FVec F Sp .f32) : Pr nD τ sig Λ F PUnit :=
  (put o c z v).bind fun _ =>
    if z.val = 0 then put ol c 0 v else if z.val = 7 then put oh c 0 v else .ret ⟨⟩
end Out

/-! ## The adaptive convolution's body -/

section Adapt
variable (w : Memref sig .tc .vmem (Sb 27 8) .bf16) (g : Memref sig .tc .vmem Sg .f32)

/-- The row of channel `c` at shift `k`. -/
abbrev row (k c : Nat) (hk : k < 9) (hc : c < 8) : Fin 72 := ⟨8 * k + c, by omega⟩

/-- One tap: its weights, and every channel's shifted plane, multiplied and added on. -/
def tap (z : Fin 8) (t : Fin 27) (acc : Fin 8 → FVec F Sp .f32) : Pr nD τ sig Λ F (Fin 8 → FVec F Sp .f32) :=
  (ld w (cellRect 27 8 t z) (show 0 < Sr1.numel by decide)).bind fun wv =>
  (gather 8 fun c => ld g (rowRect (slot (z.val + t.val / 9)) (row (t.val % 9) c.val (Nat.mod_lt _ (by omega)) c.isLt))
      (show 0 < Sr1.numel by decide)).bind fun xs =>
  .ret fun c =>
    let p := mulf (shapeCast (s := Sr1) Sp (xs c) (by decide)) (extf .f32 (shapeCast (s := Sr1) Sp wv (by decide)) (by decide))
    if t.val = 0 then p else addf (acc c) p

/-- One output plane. -/
def adaptOut (o : Memref sig .tc .vmem (Sb 8 8) .f32) (ol oh : Memref sig .tc .vmem (Sb 8 1) .f32) (z : Fin 8) :
    Pr nD τ sig Λ F PUnit :=
  (loop 27 (tap w g z) (fun _ => broadcast Sp zf)).bind fun acc =>
    loop 8 (fun c _ => putAll o ol oh z c (acc c)) ⟨⟩

/-- The body. -/
def adaptBody (a : BitVec 32) (lo : Memref sig .tc .vmem (Sb 8 1) .f32) (cu : Memref sig .tc .vmem (Sb 8 8) .f32)
    (hi : Memref sig .tc .vmem (Sb 8 1) .f32) (o : Memref sig .tc .vmem (Sb 8 8) .f32)
    (ol oh : Memref sig .tc .vmem (Sb 8 1) .f32) : Pr nD τ sig Λ F PUnit :=
  overSlabs id g (fun _ _ => View.stores_vmem_bits_univ (show 0 < Sg8.numel by decide) rfl) a lo cu hi
    (adaptOut w g o ol oh)
end Adapt

/-! ## The two convolutions' bodies -/

section Conv
variable {n : Nat} (D : DotDims ⟨2, ![n, 72]⟩ ⟨3, ![72, 128, 128]⟩ ⟨3, ![n, 128, 128]⟩)
  (w : Memref sig .tc .vmem ⟨3, ![3, n, 72]⟩ .bf16) (g : Memref sig .tc .vmem Sg .bf16)

/-- The packed ring's stores are of whole words. -/
theorem packed_shift (a : Fin 3) (k : Fin 9) : (shiftRect a k).PackedRows (EltTy.packing .bf16) := by
  revert a k; decide

/-- The weights of depth tap `d`. -/
abbrev depthRect (n : Nat) (d : Fin 3) : Rect ⟨3, ![3, n, 72]⟩ :=
  Rect.unit (s := ⟨3, ![3, n, 72]⟩) ![d.val, 0, 0] (⟨3, ![1, n, 72]⟩ : Shape).size (by
    intro j; have := d.isLt; fin_cases j <;> simp; omega)

/-- One slot's rows as the right operand. -/
def rhsOf (x : FVec F Sg72 .bf16) : FVec F ⟨3, ![72, 128, 128]⟩ .bf16 := shapeCast ⟨3, ![72, 128, 128]⟩ x (by decide)

/-- One depth tap's weights as the left operand. -/
def lhsOf (x : FVec F ⟨3, ![1, n, 72]⟩ .bf16) (h : (⟨3, ![1, n, 72]⟩ : Shape).ShapeCasts ⟨2, ![n, 72]⟩) :
    FVec F ⟨2, ![n, 72]⟩ .bf16 := shapeCast ⟨2, ![n, 72]⟩ x h

/-- One depth tap: its weights times its slot, added on. -/
def dot (hn : 0 < (⟨3, ![1, n, 72]⟩ : Shape).numel) (hs : (⟨3, ![1, n, 72]⟩ : Shape).ShapeCasts ⟨2, ![n, 72]⟩)
    (z : Fin 8) (d : Fin 3) (acc : FVec F ⟨3, ![n, 128, 128]⟩ .f32) : Pr nD τ sig Λ F (FVec F ⟨3, ![n, 128, 128]⟩ .f32) :=
  (ld w (depthRect n d) hn).bind fun wv =>
  (ld g (slotRect (slot (z.val + d.val))) (show 0 < Sg72.numel by decide)).bind fun x =>
  .ret (let p := matmul D none (lhsOf wv hs) (rhsOf x) (constant ⟨3, ![n, 128, 128]⟩ .f32 0x00000000#32)
    if d.val = 0 then p else addf acc p)

/-- The three depth taps. -/
def dots (hn : 0 < (⟨3, ![1, n, 72]⟩ : Shape).numel) (hs : (⟨3, ![1, n, 72]⟩ : Shape).ShapeCasts ⟨2, ![n, 72]⟩)
    (z : Fin 8) : Pr nD τ sig Λ F (FVec F ⟨3, ![n, 128, 128]⟩ .f32) :=
  loop 3 (dot D w g hn hs z) (constant ⟨3, ![n, 128, 128]⟩ .f32 0x00000000#32)
end Conv

section Conv1
variable (D : DotDims ⟨2, ![8, 72]⟩ ⟨3, ![72, 128, 128]⟩ ⟨3, ![8, 128, 128]⟩)
  (w : Memref sig .tc .vmem ⟨3, ![3, 8, 72]⟩ .bf16) (b : Memref sig .tc .smem ⟨2, ![1, 8]⟩ .f32)
  (g : Memref sig .tc .vmem Sg .bf16)

/-- The bias of channel `c`. -/
abbrev biasRect (c : Fin 8) : Rect ⟨2, ![1, 8]⟩ :=
  Rect.unit (s := ⟨2, ![1, 8]⟩) ![0, c.val] (⟨2, ![1, 1]⟩ : Shape).size (by
    intro j; have := c.isLt; fin_cases j <;> simp; omega)

/-- One channel of a slab. -/
def chan (c : Fin 8) (v : FVec F Sv .f32) : FVec F Sp .f32 :=
  shapeCast Sp (extractStridedSlice ⟨3, ![1, 128, 128]⟩ ![c.val, 0, 0] v (by revert c; decide)) (by decide)

/-- Bias and the positive part. -/
def biasRelu (v : FVec F Sp .f32) (x : F .f32) : FVec F Sp .f32 :=
  maximumf (addf v (broadcast Sp x)) (broadcast Sp zf)

/-- One output plane of the first convolution. -/
def conv1Out (o : Memref sig .tc .vmem (Sb 8 8) .f32) (ol oh : Memref sig .tc .vmem (Sb 8 1) .f32) (z : Fin 8) :
    Pr nD τ sig Λ F PUnit :=
  (dots D w g (by decide) (by decide) z).bind fun acc =>
    loop 8 (fun c _ =>
      (smemLoad b (biasRect c) (show (⟨2, ![1, 1]⟩ : Shape).numel = 1 by decide) rfl).bind fun x =>
        putAll o ol oh z c (biasRelu (chan c acc) x)) ⟨⟩

/-- The first convolution's body. -/
def conv1Body (hg : g.IsWhole) (a : BitVec 32) (lo : Memref sig .tc .vmem (Sb 8 1) .f32)
    (cu : Memref sig .tc .vmem (Sb 8 8) .f32)
    (hi : Memref sig .tc .vmem (Sb 8 1) .f32) (o : Memref sig .tc .vmem (Sb 8 8) .f32)
    (ol oh : Memref sig .tc .vmem (Sb 8 1) .f32) : Pr nD τ sig Λ F PUnit :=
  overSlabs (fun v => truncf .bf16 v (by decide)) g
    (fun a k => View.stores_vmem (show 0 < Sg8.numel by decide) (hg.storeExact_slice rfl _ (packed_shift a k)) (fun _ => rfl))
    a lo cu hi (conv1Out D w b g o ol oh)
end Conv1

section Conv2
variable (D : DotDims ⟨2, ![27, 72]⟩ ⟨3, ![72, 128, 128]⟩ ⟨3, ![27, 128, 128]⟩)
  (w : Memref sig .tc .vmem ⟨3, ![3, 27, 72]⟩ .bf16) (g : Memref sig .tc .vmem Sg .bf16)

/-- The filters of one plane divided by the sum of their absolute values, or by the least divisor. -/
def normed (v : FVec F ⟨3, ![27, 128, 128]⟩ .f32) : FVec F ⟨3, ![27, 128, 128]⟩ .bf16 :=
  truncf .bf16
    (mulf v (broadcastTo ⟨3, ![27, 128, 128]⟩
      (shapeCast ⟨3, ![1, 128, 128]⟩
        (divf (broadcast Sp (Scalar.ofBits .f32 0x3F800000#32))
          (maximumf (multiReduction .add [0] Sp (absf v) 0x00000000#32 (by decide) (.inl rfl) rfl)
            (broadcast Sp (Scalar.ofBits .f32 0x2B8CBCCC#32)))) (by decide)) (by decide))) (by decide)

/-- The packed output's stores are of whole words. -/
theorem packed_plane (z : Fin 8) : (planeRect 27 8 z).PackedRows (EltTy.packing .bf16) := by
  revert z; decide

/-- One output plane of the second convolution. -/
def conv2Out (o : Memref sig .tc .vmem (Sb 27 8) .bf16) (ho : o.IsWhole) (z : Fin 8) : Pr nD τ sig Λ F PUnit :=
  (dots D w g (by decide) (by decide) z).bind fun acc =>
    (ld o (planeRect 27 8 z) (show 0 < (Sb 27 1).numel by decide)).bind fun _ =>
      st o (planeRect 27 8 z) (shapeCast (s := ⟨3, ![27, 128, 128]⟩) (Sb 27 1) (normed acc) (by decide))
        (View.stores_vmem (show 0 < (Sb 27 1).numel by decide) (ho.storeExact_slice rfl _ (packed_plane z)) (fun _ => rfl))

/-- The second convolution's body. -/
def conv2Body (hg : g.IsWhole) (a : BitVec 32) (lo : Memref sig .tc .vmem (Sb 8 1) .f32)
    (cu : Memref sig .tc .vmem (Sb 8 8) .f32) (hi : Memref sig .tc .vmem (Sb 8 1) .f32)
    (o : Memref sig .tc .vmem (Sb 27 8) .bf16) (ho : o.IsWhole) : Pr nD τ sig Λ F PUnit :=
  overSlabs (fun v => truncf .bf16 v (by decide)) g
    (fun a k => View.stores_vmem (show 0 < Sg8.numel by decide) (hg.storeExact_slice rfl _ (packed_shift a k)) (fun _ => rfl))
    a lo cu hi (conv2Out D w g o ho)
end Conv2

end Cert.Own
-- ==== Proof.BodyEqIdeal.lean ====
module

public import proofs.«01_k».proof.KernelIdeal
public import proofs.«01_k».proof.Proof.Body
import Idealize.ShloMosaic.Lib.Tactic

/-! # The printed bodies are the loops -/

@[expose] public section

namespace Cert.KernelIdeal.Own

open Idealize.ShloMosaic Idealize.SL.Sem
open Cert.KernelIdeal Cert.Own

variable {F : FTy → Type} [FloatOps F] [Facts]

/-- The printed body 0 is the loop form. -/
theorem body0_eq (i : grid0.Coords) (arg1 : Memref sig .tc .vmem S8x1x128x128 .f32) (harg1 : arg1.IsWhole) (arg2 : Memref sig .tc .vmem S8x8x128x128 .f32) (harg2 : arg2.IsWhole) (arg3 : Memref sig .tc .vmem S8x1x128x128 .f32) (harg3 : arg3.IsWhole) (arg4 : Memref sig .tc .vmem S3x8x72 .bf16) (harg4 : arg4.IsWhole) (arg5 : Memref sig .tc .smem S1x8 .f32) (harg5 : arg5.IsWhole) (arg6 : Memref sig .tc .vmem S8x8x128x128 .f32) (harg6 : arg6.IsWhole) (arg7 : Memref sig .tc .vmem S8x1x128x128 .f32) (harg7 : arg7.IsWhole) (arg8 : Memref sig .tc .vmem S8x1x128x128 .f32) (harg8 : arg8.IsWhole) (arg9 : Memref sig .tc .vmem S3x72x128x128 .bf16) (harg9 : arg9.IsWhole) :
    (cc0__conv1_kernel i arg1 harg1 arg2 harg2 arg3 harg3 arg4 harg4 arg5 harg5 arg6 harg6 arg7 harg7 arg8 harg8 arg9 harg9 : Prog (TpuEff nD τ sig (Elt F) Λ₀ .tc) PUnit)
      = conv1Body dot_S8x72_S72x128x128_S8x128x128_1_0_0_12_n_n arg4 arg5 arg9 harg9 (BitVec.ofNat 32 (i 0).val) arg1 arg2 arg3 arg6 arg7 arg8 := by
  sl_kernel_rfl

/-- The printed body 1 is the loop form. -/
theorem body1_eq (i : grid1.Coords) (arg1 : Memref sig .tc .vmem S8x1x128x128 .f32) (harg1 : arg1.IsWhole) (arg2 : Memref sig .tc .vmem S8x8x128x128 .f32) (harg2 : arg2.IsWhole) (arg3 : Memref sig .tc .vmem S8x1x128x128 .f32) (harg3 : arg3.IsWhole) (arg4 : Memref sig .tc .vmem S3x27x72 .bf16) (harg4 : arg4.IsWhole) (arg5 : Memref sig .tc .vmem S27x8x128x128 .bf16) (harg5 : arg5.IsWhole) (arg6 : Memref sig .tc .vmem S3x72x128x128 .bf16) (harg6 : arg6.IsWhole) :
    (cc1__conv2_kernel i arg1 harg1 arg2 harg2 arg3 harg3 arg4 harg4 arg5 harg5 arg6 harg6 : Prog (TpuEff nD τ sig (Elt F) Λ₀ .tc) PUnit)
      = conv2Body dot_S27x72_S72x128x128_S27x128x128_1_0_0_12_n_n arg4 arg6 harg6 (BitVec.ofNat 32 (i 0).val) arg1 arg2 arg3 arg5 harg5 := by
  sl_kernel_rfl

/-- The printed body 2 is the loop form. -/
theorem body2_eq (i : grid2.Coords) (arg1 : Memref sig .tc .vmem S8x1x128x128 .f32) (harg1 : arg1.IsWhole) (arg2 : Memref sig .tc .vmem S8x8x128x128 .f32) (harg2 : arg2.IsWhole) (arg3 : Memref sig .tc .vmem S8x1x128x128 .f32) (harg3 : arg3.IsWhole) (arg4 : Memref sig .tc .vmem S27x8x128x128 .bf16) (harg4 : arg4.IsWhole) (arg5 : Memref sig .tc .vmem S8x8x128x128 .f32) (harg5 : arg5.IsWhole) (arg6 : Memref sig .tc .vmem S8x1x128x128 .f32) (harg6 : arg6.IsWhole) (arg7 : Memref sig .tc .vmem S8x1x128x128 .f32) (harg7 : arg7.IsWhole) (arg8 : Memref sig .tc .vmem S3x72x128x128 .f32) (harg8 : arg8.IsWhole) :
    (cc2__adapt_kernel i arg1 harg1 arg2 harg2 arg3 harg3 arg4 harg4 arg5 harg5 arg6 harg6 arg7 harg7 arg8 harg8 : Prog (TpuEff nD τ sig (Elt F) Λ₀ .tc) PUnit)
      = adaptBody arg4 arg8 (BitVec.ofNat 32 (i 0).val) arg1 arg2 arg3 arg5 arg6 arg7 := by
  sl_kernel_rfl

/-- The printed body 3 is the loop form. -/
theorem body3_eq (i : grid3.Coords) (arg1 : Memref sig .tc .vmem S8x1x128x128 .f32) (harg1 : arg1.IsWhole) (arg2 : Memref sig .tc .vmem S8x8x128x128 .f32) (harg2 : arg2.IsWhole) (arg3 : Memref sig .tc .vmem S8x1x128x128 .f32) (harg3 : arg3.IsWhole) (arg4 : Memref sig .tc .vmem S27x8x128x128 .bf16) (harg4 : arg4.IsWhole) (arg5 : Memref sig .tc .vmem S8x8x128x128 .f32) (harg5 : arg5.IsWhole) (arg6 : Memref sig .tc .vmem S8x1x128x128 .f32) (harg6 : arg6.IsWhole) (arg7 : Memref sig .tc .vmem S8x1x128x128 .f32) (harg7 : arg7.IsWhole) (arg8 : Memref sig .tc .vmem S3x72x128x128 .f32) (harg8 : arg8.IsWhole) :
    (cc3__adapt_kernel i arg1 harg1 arg2 harg2 arg3 harg3 arg4 harg4 arg5 harg5 arg6 harg6 arg7 harg7 arg8 harg8 : Prog (TpuEff nD τ sig (Elt F) Λ₀ .tc) PUnit)
      = adaptBody arg4 arg8 (BitVec.ofNat 32 (i 0).val) arg1 arg2 arg3 arg5 arg6 arg7 := by
  sl_kernel_rfl

/-- The printed body 4 is the loop form. -/
theorem body4_eq (i : grid4.Coords) (arg1 : Memref sig .tc .vmem S8x1x128x128 .f32) (harg1 : arg1.IsWhole) (arg2 : Memref sig .tc .vmem S8x8x128x128 .f32) (harg2 : arg2.IsWhole) (arg3 : Memref sig .tc .vmem S8x1x128x128 .f32) (harg3 : arg3.IsWhole) (arg4 : Memref sig .tc .vmem S27x8x128x128 .bf16) (harg4 : arg4.IsWhole) (arg5 : Memref sig .tc .vmem S8x8x128x128 .f32) (harg5 : arg5.IsWhole) (arg6 : Memref sig .tc .vmem S8x1x128x128 .f32) (harg6 : arg6.IsWhole) (arg7 : Memref sig .tc .vmem S8x1x128x128 .f32) (harg7 : arg7.IsWhole) (arg8 : Memref sig .tc .vmem S3x72x128x128 .f32) (harg8 : arg8.IsWhole) :
    (cc4__adapt_kernel i arg1 harg1 arg2 harg2 arg3 harg3 arg4 harg4 arg5 harg5 arg6 harg6 arg7 harg7 arg8 harg8 : Prog (TpuEff nD τ sig (Elt F) Λ₀ .tc) PUnit)
      = adaptBody arg4 arg8 (BitVec.ofNat 32 (i 0).val) arg1 arg2 arg3 arg5 arg6 arg7 := by
  sl_kernel_rfl

end Cert.KernelIdeal.Own
-- ==== Proof.Triple.lean ====
module

public import proofs.«01_k».proof.Proof.Body
public import Idealize.ShloMosaic.Lib.Pipeline.FrameBody
public import Idealize.ShloMosaic.Lib.Pipeline.RegionsLoop
public import Idealize.ShloMosaic.Lib.Tactic

/-!
# Deterministic triples

`Tr P p Q a`: from `P`, the program `p` runs to the value `a` and leaves `Q`, whatever else is owned beside.
One rule per memory operation over memrefs owned at stated contents, one per loop.
-/

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type} [FloatOps F]

local notation "𝕄" => MT nD τ sig Unit (Elt F) ℕ (UR sig nD τ) ℕ

variable (defs : Defs nD τ sig (Elt F) Λ) (c : Dev nD) (E : Set ℕ)

/-- From `P`, `p` runs to `a` and leaves `Q`, beside any frame. -/
def Tr {α : Type} (P : sProp 𝕄) (p : Pr nD τ sig Λ F α) (Q : sProp 𝕄) (a : α) : Prop :=
  ∀ (R : sProp 𝕄) (K : α → sProp 𝕄), (iprop(Q ∗ R) ⊢ K a) →
    iprop(P ∗ R) ⊢ wp frame (wpE defs Variants.none (c : Thread nD τ) none) E p K

variable {defs c E}

/-- A value returned. -/
theorem Tr.ret {α : Type} {P : sProp 𝕄} (a : α) : Tr defs c E P (.ret a : Pr nD τ sig Λ F α) P a := by
  intro R K h
  refine h.trans ?_
  exact le_wp_ret _ _ _ a K

/-- One program after another. -/
theorem Tr.bind {α β : Type} {P Q R : sProp 𝕄} {p : Pr nD τ sig Λ F α} {f : α → Pr nD τ sig Λ F β} {a : α} {b : β}
    (hp : Tr defs c E P p Q a) (hf : Tr defs c E Q (f a) R b) : Tr defs c E P (p.bind f) R b := by
  intro S K h
  have := hp S (fun a => wp frame (wpE defs Variants.none (c : Thread nD τ) none) E (f a) K) (hf S K h)
  refine this.trans ?_
  rw [← wp_bind]
  exact .rfl

/-- What is owned beside is kept. -/
theorem Tr.frame {α : Type} {P Q : sProp 𝕄} {p : Pr nD τ sig Λ F α} {a : α} (hp : Tr defs c E P p Q a) (S : sProp 𝕄) :
    Tr defs c E iprop(P ∗ S) p iprop(Q ∗ S) a := by
  intro R K h
  have h1 : iprop(Q ∗ (S ∗ R)) ⊢ K a := by
    refine BIBase.Entails.trans ?_ h
    iintro ⟨H1, H2, H3⟩; isplitr [H3]
    · isplitl [H1]; · iexact H1
      iexact H2
    iexact H3
  refine BIBase.Entails.trans ?_ (hp iprop(S ∗ R) K h1)
  iintro ⟨⟨H1, H2⟩, H3⟩; isplitl [H1]; · iexact H1
  isplitl [H2]; · iexact H2
  iexact H3

/-- Weakening on both sides. -/
theorem Tr.mono {α : Type} {P P' Q Q' : sProp 𝕄} {p : Pr nD τ sig Λ F α} {a : α} (hp : Tr defs c E P p Q a)
    (h1 : P' ⊢ P) (h2 : Q ⊢ Q') : Tr defs c E P' p Q' a := by
  intro R K h
  exact (sep_mono_left h1).trans (hp R K ((sep_mono_left h2).trans h))

/-- A loop over `0 … n`, its state after `i` rounds `P i`, its value `A i`. -/
theorem Tr.loop {α : Type} (n : Nat) : ∀ (P : ℕ → sProp 𝕄) (A : ℕ → α) (f : Fin n → α → Pr nD τ sig Λ F α),
    (∀ i : Fin n, Tr defs c E (P i.val) (f i (A i.val)) (P (i.val + 1)) (A (i.val + 1))) →
    Tr defs c E (P 0) (loop n f (A 0)) (P n) (A n) := by
  induction n with
  | zero => intro P A f _; exact Tr.ret _
  | succ n ih =>
    intro P A f h
    refine Tr.bind (h 0) ?_
    have := ih (fun i => P (i + 1)) (fun i => A (i + 1)) (fun i => f i.succ) (fun i => h i.succ)
    exact this

/-- Reads gathered in a row: each leaves `P` and returns `A i`. -/
theorem Tr.gather {α : Type} (n : Nat) : ∀ (P : sProp 𝕄) (A : Fin n → α) (f : Fin n → Pr nD τ sig Λ F α),
    (∀ i : Fin n, Tr defs c E P (f i) P (A i)) → Tr defs c E P (gather n f) P A := by
  induction n with
  | zero => intro P A f _; rw [show A = fun i => i.elim0 from funext fun i => i.elim0]; exact Tr.ret _
  | succ n ih =>
    intro P A f h
    refine Tr.bind (h 0) (Tr.bind (ih P (fun i => A i.succ) (fun i => f i.succ) (fun i => h i.succ)) ?_)
    have : A = Fin.cons (A 0) (fun i => A i.succ) := (Fin.cons_self_tail A).symm
    rw [this]
    exact Tr.ret _

/-- What a load at rectangle `r` returns. -/
def at' {s : Shape} {α : Type} (r : Rect s) (X : s.Idx → α) : r.shape.Idx → α := fun j => X (r.emb j)

/-- A load returns what the memref holds. -/
theorem Tr.ld {s : Shape} {e : EltTy} (m : Memref sig .tc .vmem s e) (r : Rect s) (h : 0 < r.shape.numel)
    (q : PosShare TreeShare) (X : s.Idx → Elt F e) :
    Tr defs c E (owns (c : Thread nD τ) m q X) (ld m r h : Pr nD τ sig Λ F _) (owns (c : Thread nD τ) m q X) (at' r X) := by
  intro R K hK
  unfold owns at *
  iintro ⟨⟨%f, %hf, H⟩, HR⟩
  have hw := wp_load_rect (defs := defs) Variants.none (c : Thread nD τ) none (Γ := .empty) E (m := m) (r := r)
    (hl := View.loadsAt_vmem h) (k := .ret) (Q := K) (S := m.view.set) (q := q) (f := f)
    (m.view.set_slice_subset r)
  iapply hw $$ H
  iintro H
  have hx : (m.access r).read (Elt F) f = at' r X := by
    funext j; subst hf; rfl
  rw [hx]
  iapply (le_wp_ret _ _ _ (at' r X) K)
  iapply hK
  isplitr [HR]
  · iexists f; isplitr
    · ipureintro; exact hf
    iexact H
  iexact HR

/-- A load of one scalar returns what the memref holds. -/
theorem Tr.smem {s : Shape} {e : EltTy} (m : Memref sig .tc .smem s e) (r : Rect s) (h1 : r.shape.numel = 1) (hp : e.packing = 1)
    (q : PosShare TreeShare) (X : s.Idx → Elt F e) :
    Tr defs c E (owns (c : Thread nD τ) m q X) (smemLoad m r h1 hp : Pr nD τ sig Λ F _) (owns (c : Thread nD τ) m q X)
      (X (r.emb (Shape.Idx.first (h1.symm ▸ Nat.one_pos)))) := by
  intro R K hK
  unfold owns at *
  iintro ⟨⟨%f, %hf, H⟩, HR⟩
  have hw := wp_smemLoadElt (defs := defs) Variants.none (c : Thread nD τ) none (Γ := .empty) E (m := m) (r := r)
    (hw := View.loads_smem_one hp h1) (x := Shape.Idx.first (h1.symm ▸ Nat.one_pos)) (k := .ret) (Q := K) (S := m.view.set) (q := q) (f := f)
    (m.view.set_slice_subset r)
  unfold smemLoad
  iapply hw $$ H
  iintro H
  have hx : (m.access r).read (Elt F) f (Shape.Idx.first (h1.symm ▸ Nat.one_pos)) = X (r.emb (Shape.Idx.first (h1.symm ▸ Nat.one_pos))) := by
    subst hf; rfl
  rw [hx]
  iapply (le_wp_ret _ _ _ _ K)
  iapply hK
  isplitr [HR]
  · iexists f; isplitr
    · ipureintro; exact hf
    iexact H
  iexact HR

/-- A store replaces the rectangle's part of the contents. -/
theorem Tr.st {s : Shape} {e : EltTy} (m : Memref sig .tc .vmem s e) (r : Rect s) (w : r.shape.Idx → Elt F e)
    (h : (m.access r).Stores Finset.univ) (X : s.Idx → Elt F e) :
    Tr defs c E (owns (c : Thread nD τ) m fullShare X) (st m r w h : Pr nD τ sig Λ F _)
      (owns (c : Thread nD τ) m fullShare (r.overlay X w)) ⟨⟩ := by
  intro R K hK
  unfold owns at *
  iintro ⟨⟨%f, %hf, H⟩, HR⟩
  have hw := wp_store (defs := defs) Variants.none (c : Thread nD τ) none (Γ := .empty) E (m := m) (r := r) (w := w)
    (hx := h) (hm := .inl rfl) (k := .ret) (Q := K) (S := m.view.set) (f := f)
    (by rw [View.setOn_univ]; exact m.view.set_slice_subset r)
  iapply hw $$ H
  iintro H
  have hx : m.view.read (Elt F) ((m.access r).write (Elt F) f w Finset.univ) = r.overlay X w := by
    funext j
    by_cases hj : j ∈ r.set
    · obtain ⟨i, rfl⟩ := r.exists_idx_of_mem hj
      rw [show r.idx i = r.emb i from rfl, Rect.overlay_emb]
      exact View.read_slice_write_emb r f w (Finset.mem_univ i)
    · rw [Rect.overlay_of_not_mem _ _ _ hj, ← hf]
      exact View.read_slice_write_of_not_mem r f w Finset.univ (by rwa [Rect.map_emb_univ])
  iapply (le_wp_ret _ _ _ _ K)
  iapply hK
  isplitr [HR]
  · iexists _; isplitr
    · ipureintro; exact hx
    iexact H
  iexact HR

end Cert.Own
-- ==== Proof.Cells.lean ====
module

public import proofs.«01_k».proof.Proof.Triple
public import Idealize.ShloMosaic.Lib.ValueIdx
public import Idealize.ShloMosaic.Lib.ValueLayout

/-!
# What one store leaves, cell by cell

The contents of the ring and of the output blocks after one store, and what one load reads, at an index.
-/

@[expose] public section

noncomputable section

namespace Cert.Own

open Idealize.ShloMosaic
open Idealize.ShloMosaic.ValueIdx

variable {α : Type}

/-- Inside a unit-stride rectangle the overlay is what was stored. -/
theorem overlay_mem {s : Shape} {off size : Fin s.rank → Nat} {inb : ∀ a, off a + size a ≤ s.size a} (X : s.Idx → α)
    (G : (Rect.unit off size inb).shape.Idx → α) (j : s.Idx) (x : (Rect.unit off size inb).shape.Idx)
    (hx : ∀ a, (j a).val = off a + (x a).val) : (Rect.unit off size inb).overlay X G j = G x := by
  have : j = (Rect.unit off size inb).emb x := by
    funext a; apply Fin.ext; rw [Rect.emb_apply, hx a]; simp
  rw [this, Rect.overlay_emb]

/-- Outside it the overlay is what was there. -/
theorem overlay_not {s : Shape} {off size : Fin s.rank → Nat} {inb : ∀ a, off a + size a ≤ s.size a} (X : s.Idx → α)
    (G : (Rect.unit off size inb).shape.Idx → α) (j : s.Idx) (a : Fin s.rank)
    (ha : (j a).val < off a ∨ off a + size a ≤ (j a).val) : (Rect.unit off size inb).overlay X G j = X j := by
  apply Rect.overlay_of_not_mem
  rw [Rect.mem_set_unit]
  intro h
  have := h a
  omega

/-- One plane of one channel stored. -/
theorem overlay_cell {n d : Nat} (c : Fin n) (z : Fin d) (X : (Sb n d).Idx → α) (v : Sp.Idx → α)
    (h : Sp.ShapeCasts Sr1) (c' : Fin n) (z' : Fin d) (y x : Fin 128) :
    (cellRect n d c z).overlay X (shapeCast Sr1 v h) (ix4 c' z' y x)
      = if c' = c ∧ z' = z then v (ix2 y x) else X (ix4 c' z' y x) := by
  split_ifs with hj
  · refine (overlay_mem X _ _ (ix4 (n0 := 1) (n1 := 1) (n2 := 128) (n3 := 128) 0 0 y x) ?_).trans ?_
    · intro a
      match a with
      | ⟨0, _⟩ => exact congrArg Fin.val hj.1
      | ⟨1, _⟩ => exact congrArg Fin.val hj.2
      | ⟨2, _⟩ => exact (Nat.zero_add _).symm
      | ⟨3, _⟩ => exact (Nat.zero_add _).symm
    · refine shapeCast_apply v h _ _ ?_
      rw [Shape.rowMajor_val_four, Shape.rowMajor_val_two]
      show y.val * 128 + x.val = ((0 * 1 + 0) * 128 + y.val) * 128 + x.val
      simp
  · by_cases h0 : c' = c
    · have h1 : z'.val ≠ z.val := fun h1 => hj ⟨h0, Fin.ext h1⟩
      refine overlay_not X _ _ (1 : Fin 4) ?_
      show z'.val < z.val ∨ z.val + 1 ≤ z'.val
      omega
    · have h1 : c'.val ≠ c.val := fun h1 => h0 (Fin.ext h1)
      refine overlay_not X _ _ (0 : Fin 4) ?_
      show c'.val < c.val ∨ c.val + 1 ≤ c'.val
      omega

/-- One plane of every channel stored. -/
theorem overlay_plane {n d : Nat} (z : Fin d) (X : (Sb n d).Idx → α) (v : (⟨3, ![n, 128, 128]⟩ : Shape).Idx → α)
    (h : (⟨3, ![n, 128, 128]⟩ : Shape).ShapeCasts (Sb n 1)) (c' : Fin n) (z' : Fin d) (y x : Fin 128) :
    (planeRect n d z).overlay X (shapeCast (Sb n 1) v h) (ix4 c' z' y x)
      = if z' = z then v (ix3 c' y x) else X (ix4 c' z' y x) := by
  split_ifs with hj
  · refine (overlay_mem X _ _ (ix4 (n0 := n) (n1 := 1) (n2 := 128) (n3 := 128) c' 0 y x) ?_).trans ?_
    · intro a
      match a with
      | ⟨0, _⟩ => exact (Nat.zero_add _).symm
      | ⟨1, _⟩ => exact congrArg Fin.val hj
      | ⟨2, _⟩ => exact (Nat.zero_add _).symm
      | ⟨3, _⟩ => exact (Nat.zero_add _).symm
    · refine shapeCast_apply v h _ _ ?_
      rw [Shape.rowMajor_val_four, Shape.rowMajor_val_three]
      show (c'.val * 128 + y.val) * 128 + x.val = ((c'.val * 1 + 0) * 128 + y.val) * 128 + x.val
      simp
  · have h1 : z'.val ≠ z.val := fun h1 => hj (Fin.ext h1)
    refine overlay_not X _ _ (1 : Fin 4) ?_
    show z'.val < z.val ∨ z.val + 1 ≤ z'.val
    omega

/-- Channel of a ring row. -/
def rowChan (r : Fin 72) : Fin 8 := ⟨r.val % 8, Nat.mod_lt _ (by omega)⟩

/-- One shift of eight channels stored in the ring. -/
theorem overlay_shift (a : Fin 3) (k : Fin 9) (X : Sg.Idx → α) (v : Sv.Idx → α) (h : Sv.ShapeCasts Sg8)
    (b : Fin 3) (r : Fin 72) (y x : Fin 128) :
    (shiftRect a k).overlay X (shapeCast Sg8 v h) (ix4 b r y x)
      = if b = a ∧ r.val / 8 = k.val then v (ix3 (rowChan r) y x) else X (ix4 b r y x) := by
  split_ifs with hj
  · refine (overlay_mem X _ _ (ix4 (n0 := 1) (n1 := 8) (n2 := 128) (n3 := 128) 0 (rowChan r) y x) ?_).trans ?_
    · intro a'
      match a' with
      | ⟨0, _⟩ => exact congrArg Fin.val hj.1
      | ⟨1, _⟩ => show r.val = 8 * k.val + r.val % 8; omega
      | ⟨2, _⟩ => exact (Nat.zero_add _).symm
      | ⟨3, _⟩ => exact (Nat.zero_add _).symm
    · refine shapeCast_apply v h _ _ ?_
      rw [Shape.rowMajor_val_four, Shape.rowMajor_val_three]
      show ((rowChan r).val * 128 + y.val) * 128 + x.val = ((0 * 8 + (rowChan r).val) * 128 + y.val) * 128 + x.val
      simp
  · by_cases h0 : b = a
    · have h1 : r.val / 8 ≠ k.val := fun h1 => hj ⟨h0, h1⟩
      refine overlay_not X _ _ (1 : Fin 4) ?_
      show r.val < 8 * k.val ∨ 8 * k.val + 8 ≤ r.val
      omega
    · have h1 : b.val ≠ a.val := fun h1 => h0 (Fin.ext h1)
      refine overlay_not X _ _ (0 : Fin 4) ?_
      show b.val < a.val ∨ a.val + 1 ≤ b.val
      omega

/-- One plane of one channel read. -/
theorem read_cell {n d : Nat} (c : Fin n) (z : Fin d) (X : (Sb n d).Idx → α) (h : Sr1.ShapeCasts Sp) (y x : Fin 128) :
    shapeCast (s := Sr1) Sp (at' (cellRect n d c z) X) h (ix2 y x) = X (ix4 c z y x) := by
  refine (shapeCast_apply _ h _ (ix4 (n0 := 1) (n1 := 1) (n2 := 128) (n3 := 128) 0 0 y x) ?_).trans ?_
  · rw [Shape.rowMajor_val_four, Shape.rowMajor_val_two]
    show ((0 * 1 + 0) * 128 + y.val) * 128 + x.val = y.val * 128 + x.val
    simp
  unfold at'
  congr 1
  funext a
  apply Fin.ext
  match a with
  | ⟨0, _⟩ => show c.val + 1 * 0 = c.val; omega
  | ⟨1, _⟩ => show z.val + 1 * 0 = z.val; omega
  | ⟨2, _⟩ => show 0 + 1 * y.val = y.val; omega
  | ⟨3, _⟩ => show 0 + 1 * x.val = x.val; omega

/-- One plane of every channel read. -/
theorem read_plane {n d : Nat} (z : Fin d) (X : (Sb n d).Idx → α) (h : (Sb n 1).ShapeCasts ⟨3, ![n, 128, 128]⟩)
    (c : Fin n) (y x : Fin 128) :
    shapeCast (s := Sb n 1) ⟨3, ![n, 128, 128]⟩ (at' (planeRect n d z) X) h (ix3 c y x) = X (ix4 c z y x) := by
  refine (shapeCast_apply _ h _ (ix4 (n0 := n) (n1 := 1) (n2 := 128) (n3 := 128) c 0 y x) ?_).trans ?_
  · rw [Shape.rowMajor_val_four, Shape.rowMajor_val_three]
    show ((c.val * 1 + 0) * 128 + y.val) * 128 + x.val = (c.val * 128 + y.val) * 128 + x.val
    simp
  unfold at'
  congr 1
  funext a
  apply Fin.ext
  match a with
  | ⟨0, _⟩ => show 0 + 1 * c.val = c.val; omega
  | ⟨1, _⟩ => show z.val + 1 * 0 = z.val; omega
  | ⟨2, _⟩ => show 0 + 1 * y.val = y.val; omega
  | ⟨3, _⟩ => show 0 + 1 * x.val = x.val; omega

/-- One row of the ring read. -/
theorem read_row (a : Fin 3) (r : Fin 72) (X : Sg.Idx → α) (h : Sr1.ShapeCasts Sp) (y x : Fin 128) :
    shapeCast (s := Sr1) Sp (at' (rowRect a r) X) h (ix2 y x) = X (ix4 a r y x) := by
  refine (shapeCast_apply _ h _ (ix4 (n0 := 1) (n1 := 1) (n2 := 128) (n3 := 128) 0 0 y x) ?_).trans ?_
  · rw [Shape.rowMajor_val_four, Shape.rowMajor_val_two]
    show ((0 * 1 + 0) * 128 + y.val) * 128 + x.val = y.val * 128 + x.val
    simp
  unfold at'
  congr 1
  funext b
  apply Fin.ext
  match b with
  | ⟨0, _⟩ => show a.val + 1 * 0 = a.val; omega
  | ⟨1, _⟩ => show r.val + 1 * 0 = r.val; omega
  | ⟨2, _⟩ => show 0 + 1 * y.val = y.val; omega
  | ⟨3, _⟩ => show 0 + 1 * x.val = x.val; omega

/-- One slot of the ring read. -/
theorem read_slot (a : Fin 3) (X : Sg.Idx → α) (h : Sg72.ShapeCasts ⟨3, ![72, 128, 128]⟩) (r : Fin 72) (y x : Fin 128) :
    shapeCast (s := Sg72) ⟨3, ![72, 128, 128]⟩ (at' (slotRect a) X) h (ix3 r y x) = X (ix4 a r y x) := by
  refine (shapeCast_apply _ h _ (ix4 (n0 := 1) (n1 := 72) (n2 := 128) (n3 := 128) 0 r y x) ?_).trans ?_
  · rw [Shape.rowMajor_val_four, Shape.rowMajor_val_three]
    show ((0 * 72 + r.val) * 128 + y.val) * 128 + x.val = (r.val * 128 + y.val) * 128 + x.val
    simp
  unfold at'
  congr 1
  funext b
  apply Fin.ext
  match b with
  | ⟨0, _⟩ => show a.val + 1 * 0 = a.val; omega
  | ⟨1, _⟩ => show 0 + 1 * r.val = r.val; omega
  | ⟨2, _⟩ => show 0 + 1 * y.val = y.val; omega
  | ⟨3, _⟩ => show 0 + 1 * x.val = x.val; omega

/-- One depth tap's weights read. -/
theorem read_depth {n : Nat} (d : Fin 3) (X : (⟨3, ![3, n, 72]⟩ : Shape).Idx → α)
    (h : (⟨3, ![1, n, 72]⟩ : Shape).ShapeCasts ⟨2, ![n, 72]⟩) (c : Fin n) (r : Fin 72) :
    shapeCast (s := ⟨3, ![1, n, 72]⟩) ⟨2, ![n, 72]⟩ (at' (depthRect n d) X) h (ix2 c r) = X (ix3 d c r) := by
  refine (shapeCast_apply _ h _ (ix3 (n0 := 1) (n1 := n) (n2 := 72) 0 c r) ?_).trans ?_
  · rw [Shape.rowMajor_val_three, Shape.rowMajor_val_two]
    show (0 * n + c.val) * 72 + r.val = c.val * 72 + r.val
    simp
  unfold at'
  congr 1
  funext b
  apply Fin.ext
  match b with
  | ⟨0, _⟩ => show d.val + 1 * 0 = d.val; omega
  | ⟨1, _⟩ => show 0 + 1 * c.val = c.val; omega
  | ⟨2, _⟩ => show 0 + 1 * r.val = r.val; omega

end Cert.Own
-- ==== Proof.State.lean ====
module

public import proofs.«01_k».proof.Proof.Cells

/-!
# What the three bodies do

One invariant per loop: what the ring holds after each shift, what the output blocks hold after each channel. The
three bodies then leave, whatever the ring held before, output blocks that are functions of the input blocks alone.
-/

@[expose] public section

noncomputable section

namespace Cert.Own

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type} [FloatOps F]

local notation "𝕄" => MT nD τ sig Unit (Elt F) ℕ (UR sig nD τ) ℕ

/-- Two arrays of rank four agree when they agree at every four coordinates. -/
theorem ext4 {α : Type} {n0 n1 n2 n3 : Nat} {X Y : (⟨4, ![n0, n1, n2, n3]⟩ : Shape).Idx → α}
    (h : ∀ a b c d, X (ix4 a b c d) = Y (ix4 a b c d)) : X = Y := by
  funext j; rw [eq_ix4 j]; exact h _ _ _ _

/-- Two arrays of rank three agree when they agree at every three coordinates. -/
theorem ext3 {α : Type} {n0 n1 n2 : Nat} {X Y : (⟨3, ![n0, n1, n2]⟩ : Shape).Idx → α}
    (h : ∀ a b c, X (ix3 a b c) = Y (ix3 a b c)) : X = Y := by
  funext j; rw [eq_ix3 j]; exact h _ _ _

/-- Two arrays of rank two agree when they agree at every two coordinates. -/
theorem ext2 {α : Type} {n0 n1 : Nat} {X Y : (⟨2, ![n0, n1]⟩ : Shape).Idx → α}
    (h : ∀ a b, X (ix2 a b) = Y (ix2 a b)) : X = Y := by
  funext j; rw [eq_ix2 j]; exact h _ _

/-- An array given by its four coordinates. -/
def cur4 {α : Type} {n0 n1 n2 n3 : Nat} (f : Fin n0 → Fin n1 → Fin n2 → Fin n3 → α) :
    (⟨4, ![n0, n1, n2, n3]⟩ : Shape).Idx → α := fun j => f (j 0) (j 1) (j 2) (j 3)

/-- An array given by its three coordinates. -/
def cur3 {α : Type} {n0 n1 n2 : Nat} (f : Fin n0 → Fin n1 → Fin n2 → α) :
    (⟨3, ![n0, n1, n2]⟩ : Shape).Idx → α := fun j => f (j 0) (j 1) (j 2)

/-- An array given by its two coordinates. -/
def cur2 {α : Type} {n0 n1 : Nat} (f : Fin n0 → Fin n1 → α) :
    (⟨2, ![n0, n1]⟩ : Shape).Idx → α := fun j => f (j 0) (j 1)

section
variable {defs : Defs nD τ sig (Elt F) Λ} {c : Dev nD} {E : Set ℕ}

/-- What stands before in a list of resources is kept. -/
theorem Tr.skip {α : Type} {P Q : sProp 𝕄} {p : Pr nD τ sig Λ F α} {a : α} (hp : Tr defs c E P p Q a) (S : sProp 𝕄) :
    Tr defs c E iprop(S ∗ P) p iprop(S ∗ Q) a := by
  refine (hp.frame S).mono ?_ ?_
  · iintro ⟨H1, H2⟩; isplitl [H2]; · iexact H2
    iexact H1
  · iintro ⟨H1, H2⟩; isplitl [H2]; · iexact H2
    iexact H1

/-- Reading an equal state after. -/
theorem Tr.post {α : Type} {P Q Q' : sProp 𝕄} {p : Pr nD τ sig Λ F α} {a : α} (hp : Tr defs c E P p Q a) (h : Q = Q') :
    Tr defs c E P p Q' a := h ▸ hp

/-- Reading an equal value. -/
theorem Tr.val {α : Type} {P Q : sProp 𝕄} {p : Pr nD τ sig Λ F α} {a a' : α} (hp : Tr defs c E P p Q a) (h : a = a') :
    Tr defs c E P p Q a' := h ▸ hp
end

/-! ## The slabs -/

/-- Slab `s` of a block: the plane before it, its eight planes, the plane after it. -/
def slabVal (a : BitVec 32) (xlo : (Sb 8 1).Idx → F .f32) (xcu : (Sb 8 8).Idx → F .f32) (xhi : (Sb 8 1).Idx → F .f32)
    (s : ℕ) : FVec F Sv .f32 :=
  if s = 0 then haloOf (bitLo a) (at' (planeRect 8 1 0) xlo)
  else if h : s ≤ 8 then slabOf (at' (planeRect 8 8 ⟨s - 1, by omega⟩) xcu)
  else haloOf (bitHi a) (at' (planeRect 8 1 0) xhi)

section Ring
variable {e : EltTy} (cv : FVec F Sv .f32 → Sv.Idx → Elt F e)

/-- The ring with the first `i` shifts of slab `v` in slot `a`. -/
def ringPart (G : Sg.Idx → Elt F e) (a : Fin 3) (v : FVec F Sv .f32) (i : ℕ) : Sg.Idx → Elt F e :=
  cur4 fun b r y x => if b = a ∧ r.val / 8 < i then cv (shift (r.val / 8) v) (ix3 (rowChan r) y x) else G (ix4 b r y x)

/-- One more shift stored. -/
theorem ringPart_step (G : Sg.Idx → Elt F e) (a : Fin 3) (v : FVec F Sv .f32) (k : Fin 9) (h : Sv.ShapeCasts Sg8) :
    (shiftRect a k).overlay (ringPart cv G a v k.val) (shapeCast Sg8 (cv (shift k.val v)) h)
      = ringPart cv G a v (k.val + 1) := by
  apply ext4
  intro b r y x
  rw [overlay_shift]
  show _ = if b = a ∧ r.val / 8 < k.val + 1 then cv (shift (r.val / 8) v) (ix3 (rowChan r) y x) else G (ix4 b r y x)
  by_cases hb : b = a
  · rcases Nat.lt_trichotomy (r.val / 8) k.val with h1 | h1 | h1
    · rw [if_neg (by omega), if_pos ⟨hb, by omega⟩]
      show (if b = a ∧ r.val / 8 < k.val then cv (shift (r.val / 8) v) (ix3 (rowChan r) y x) else G (ix4 b r y x)) = _
      rw [if_pos ⟨hb, h1⟩]
    · rw [if_pos ⟨hb, h1⟩, if_pos ⟨hb, by omega⟩, h1]
    · rw [if_neg (by omega), if_neg (by omega)]
      show (if b = a ∧ r.val / 8 < k.val then cv (shift (r.val / 8) v) (ix3 (rowChan r) y x) else G (ix4 b r y x)) = _
      rw [if_neg (by omega)]
  · rw [if_neg (fun h => hb h.1), if_neg (fun h => hb h.1)]
    show (if b = a ∧ r.val / 8 < k.val then cv (shift (r.val / 8) v) (ix3 (rowChan r) y x) else G (ix4 b r y x)) = _
    rw [if_neg (fun h => hb h.1)]

/-- The slots of the slabs `z`, …, `z + m - 1` hold their shifts. -/
def Holds (S : ℕ → FVec F Sv .f32) (z m : ℕ) (G : Sg.Idx → Elt F e) : Prop :=
  ∀ d, d < m → ∀ r y x, G (ix4 (slot (z + d)) r y x) = cv (shift (r.val / 8) (S (z + d))) (ix3 (rowChan r) y x)

/-- A slot filled adds its slab. -/
theorem Holds.fill {S : ℕ → FVec F Sv .f32} {z m : ℕ} {G : Sg.Idx → Elt F e} (h : Holds cv S z m G) (hm : m < 3) :
    Holds cv S z (m + 1) (ringPart cv G (slot (z + m)) (S (z + m)) 9) := by
  intro d hd r y x
  show (if slot (z + d) = slot (z + m) ∧ r.val / 8 < 9 then _ else _) = _
  have hr := r.isLt
  by_cases hdm : d = m
  · subst hdm; rw [if_pos ⟨rfl, by omega⟩]
  · rw [if_neg]
    · exact h d (by omega) r y x
    · intro h'
      have := congrArg Fin.val h'.1
      simp only [slot] at this
      omega

/-- The oldest slab given up. -/
theorem Holds.drop {S : ℕ → FVec F Sv .f32} {z m : ℕ} {G : Sg.Idx → Elt F e} (h : Holds cv S z (m + 1) G) :
    Holds cv S (z + 1) m G := by
  intro d hd r y x
  have := h (d + 1) (by omega) r y x
  rw [show z + (d + 1) = z + 1 + d by omega] at this
  exact this

variable {defs : Defs nD τ sig (Elt F) Λ} {c : Dev nD} {E : Set ℕ}
  (g : Memref sig .tc .vmem Sg e) (hg : ∀ a k, (g.access (shiftRect a k)).Stores Finset.univ)

/-- A slot filled. -/
theorem Tr.fill (a : Fin 3) (v : FVec F Sv .f32) (G : Sg.Idx → Elt F e) :
    Tr defs c E (owns (c : Thread nD τ) g fullShare G) (fill cv g hg a v : Pr nD τ sig Λ F _)
      (owns (c : Thread nD τ) g fullShare (ringPart cv G a v 9)) ⟨⟩ := by
  have := Tr.loop (defs := defs) (c := c) (E := E) 9
    (fun i => owns (c : Thread nD τ) g fullShare (ringPart cv G a v i)) (fun _ => PUnit.unit)
    (fun k _ => (Own.ld g (shiftRect a k) (show 0 < Sg8.numel by decide)).bind fun _ =>
      (Own.st g (shiftRect a k) (shapeCast (s := Sv) Sg8 (cv (shift k.val v)) (by decide)) (hg a k) : Pr nD τ sig Λ F _))
    (fun k => (Tr.ld g _ _ _ _).bind ((Tr.st g _ _ _ _).post (congrArg _ (ringPart_step cv G a v k _))))
  have h0 : ringPart cv G a v 0 = G := by
    apply ext4; intro b r y x; exact if_neg (by omega)
  rw [h0] at this
  exact this

variable (a : BitVec 32) (lo : Memref sig .tc .vmem (Sb 8 1) .f32) (cu : Memref sig .tc .vmem (Sb 8 8) .f32)
  (hi : Memref sig .tc .vmem (Sb 8 1) .f32) (ql qc qh : PosShare TreeShare)
  (xlo : (Sb 8 1).Idx → F .f32) (xcu : (Sb 8 8).Idx → F .f32) (xhi : (Sb 8 1).Idx → F .f32)

/-- The three input blocks, held. -/
abbrev ins (c : Dev nD) : sProp 𝕄 :=
  iprop(owns (c : Thread nD τ) lo ql xlo ∗ owns (c : Thread nD τ) cu qc xcu ∗ owns (c : Thread nD τ) hi qh xhi)

/-- Slab 0 loaded. -/
theorem Tr.slabLo : Tr defs c E (ins (τ := τ) (F := F) lo cu hi ql qc qh xlo xcu xhi c) (slabLo a lo : Pr nD τ sig Λ F _)
    (ins (τ := τ) (F := F) lo cu hi ql qc qh xlo xcu xhi c) (slabVal a xlo xcu xhi 0) :=
  ((Tr.ld lo _ _ _ _).frame _).bind (Tr.ret _)

/-- A slab of the block loaded. -/
theorem Tr.slabCu (z : Fin 8) : Tr defs c E (ins (τ := τ) (F := F) lo cu hi ql qc qh xlo xcu xhi c) (slabCu cu z : Pr nD τ sig Λ F _)
    (ins (τ := τ) (F := F) lo cu hi ql qc qh xlo xcu xhi c) (slabVal a xlo xcu xhi (z.val + 1)) := by
  have h : Tr defs c E (ins (τ := τ) (F := F) lo cu hi ql qc qh xlo xcu xhi c) (Own.slabCu cu z : Pr nD τ sig Λ F _)
      (ins (τ := τ) (F := F) lo cu hi ql qc qh xlo xcu xhi c) (slabOf (at' (planeRect 8 8 z) xcu)) :=
    (((Tr.ld cu _ _ _ _).frame _).skip _).bind (Tr.ret _)
  refine h.val ?_
  unfold slabVal
  rw [if_neg (by omega), dif_pos (by omega)]
  rfl

/-- The last slab loaded. -/
theorem Tr.slabHi : Tr defs c E (ins (τ := τ) (F := F) lo cu hi ql qc qh xlo xcu xhi c) (slabHi a hi : Pr nD τ sig Λ F _)
    (ins (τ := τ) (F := F) lo cu hi ql qc qh xlo xcu xhi c) (slabVal a xlo xcu xhi 9) :=
  (((Tr.ld hi _ _ _ _).skip _).skip _).bind (Tr.ret _)

/-- The slab two after `z` loaded. -/
theorem Tr.slabNext (z : Fin 8) : Tr defs c E (ins (τ := τ) (F := F) lo cu hi ql qc qh xlo xcu xhi c) (slabNext a cu hi z : Pr nD τ sig Λ F _)
    (ins (τ := τ) (F := F) lo cu hi ql qc qh xlo xcu xhi c) (slabVal a xlo xcu xhi (z.val + 2)) := by
  unfold Own.slabNext
  split_ifs with h
  · exact Tr.slabCu a lo cu hi ql qc qh xlo xcu xhi ⟨z.val + 1, by omega⟩
  · have hz : z.val + 2 = 9 := by omega
    rw [hz]
    exact Tr.slabHi a lo cu hi ql qc qh xlo xcu xhi

/-- A ring that holds `m` slabs from `z` on. -/
def ringOwn (S : ℕ → FVec F Sv .f32) (z m : ℕ) (c : Dev nD) : sProp 𝕄 :=
  iprop(∃ G, ⌜Holds cv S z m G⌝ ∗ owns (c : Thread nD τ) g fullShare G)

/-- One more slab put into the ring. -/
theorem Tr.fillOwn (S : ℕ → FVec F Sv .f32) (z m : ℕ) (hm : m < 3) (b : Fin 3) (hb : b = slot (z + m)) :
    Tr defs c E (ringOwn (τ := τ) cv g S z m c) (Own.fill cv g hg b (S (z + m)) : Pr nD τ sig Λ F _)
      (ringOwn cv g S z (m + 1) c) ⟨⟩ := by
  subst hb
  intro R K hK
  unfold ringOwn at *
  iintro ⟨⟨%G, %hG, H⟩, HR⟩
  have h1 := Tr.fill (defs := defs) (c := c) (E := E) (Λ := Λ) cv g hg (slot (z + m)) (S (z + m)) G
  iapply (h1 R K ?_)
  · refine BIBase.Entails.trans ?_ hK
    iintro ⟨H, HR⟩
    isplitr [HR]
    · iexists (ringPart cv G (slot (z + m)) (S (z + m)) 9)
      isplitr
      · ipureintro; exact hG.fill cv hm
      iexact H
    iexact HR
  isplitl [H]; · iexact H
  iexact HR

/-- The loop over slabs: each output plane is made while the ring holds its three slabs. -/
theorem Tr.overSlabs (T : ℕ → sProp 𝕄) (out : Fin 8 → Pr nD τ sig Λ F PUnit)
    (hout : ∀ z : Fin 8, Tr defs c E iprop(ringOwn (τ := τ) cv g (slabVal a xlo xcu xhi) z.val 3 c ∗ T z.val) (out z)
      iprop(ringOwn (τ := τ) cv g (slabVal a xlo xcu xhi) z.val 3 c ∗ T (z.val + 1)) ⟨⟩) :
    Tr defs c E iprop(ins (τ := τ) (F := F) lo cu hi ql qc qh xlo xcu xhi c ∗ (∃ G, owns (c : Thread nD τ) g fullShare G) ∗ T 0)
      (overSlabs cv g hg a lo cu hi out)
      iprop(ins (τ := τ) (F := F) lo cu hi ql qc qh xlo xcu xhi c ∗ (∃ G, owns (c : Thread nD τ) g fullShare G) ∗ T 8) ⟨⟩ := by
  refine Tr.mono (P := iprop(ins (τ := τ) (F := F) lo cu hi ql qc qh xlo xcu xhi c ∗ ringOwn (τ := τ) cv g (slabVal a xlo xcu xhi) 0 0 c ∗ T 0))
    (Q := iprop(ins (τ := τ) (F := F) lo cu hi ql qc qh xlo xcu xhi c ∗ ringOwn (τ := τ) cv g (slabVal a xlo xcu xhi) 8 2 c ∗ T 8)) ?_ ?_ ?_
  · refine ((Tr.slabLo a lo cu hi ql qc qh xlo xcu xhi).frame _).bind ?_
    refine (((Tr.fillOwn cv g hg (slabVal a xlo xcu xhi) 0 0 (by omega) 0 rfl).frame _).skip _).bind ?_
    refine ((Tr.slabCu a lo cu hi ql qc qh xlo xcu xhi 0).frame _).bind ?_
    refine (((Tr.fillOwn cv g hg (slabVal a xlo xcu xhi) 0 1 (by omega) 1 rfl).frame _).skip _).bind ?_
    refine Tr.loop 8 (fun z => iprop(ins (τ := τ) (F := F) lo cu hi ql qc qh xlo xcu xhi c ∗ ringOwn (τ := τ) cv g (slabVal a xlo xcu xhi) z 2 c ∗ T z))
      (fun _ => PUnit.unit) _ ?_
    intro z
    refine ((Tr.slabNext a lo cu hi ql qc qh xlo xcu xhi z).frame _).bind ?_
    refine (((Tr.fillOwn cv g hg (slabVal a xlo xcu xhi) z.val 2 (by omega) (slot (z.val + 2)) rfl).frame _).skip _).bind ?_
    refine ((hout z).skip _).mono .rfl ?_
    unfold ringOwn
    iintro ⟨H1, ⟨%G, %hG, H2⟩, H3⟩
    isplitl [H1]; · iexact H1
    isplitr [H3]
    · iexists G
      isplitr
      · ipureintro; exact hG.drop
      iexact H2
    iexact H3
  · unfold ringOwn
    iintro ⟨H1, ⟨%G, H2⟩, H3⟩
    isplitl [H1]; · iexact H1
    isplitr [H3]
    · iexists G
      isplitr
      · ipureintro; intro d hd; omega
      iexact H2
    iexact H3
  · unfold ringOwn
    iintro ⟨H1, ⟨%G, %hG, H2⟩, H3⟩
    isplitl [H1]; · iexact H1
    isplitr [H3]
    · iexists G; iexact H2
    iexact H3
end Ring

end Cert.Own
-- ==== Proof.Outs.lean ====
module

public import proofs.«01_k».proof.Proof.State

/-!
# What the output blocks hold

Plane `z` of channel `c` of an output block is a function of the slabs and of the weights: the sum over the taps for
the adaptive convolution, the three depth taps' products for the other two.
-/

@[expose] public section

noncomputable section

namespace Cert.Own

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type} [FloatOps F]

local notation "𝕄" => MT nD τ sig Unit (Elt F) ℕ (UR sig nD τ) ℕ

section
variable {defs : Defs nD τ sig (Elt F) Λ} {c : Dev nD} {E : Set ℕ}

/-- A program that touches the first two of a list of resources. -/
theorem Tr.two {α : Type} {A B A' B' : sProp 𝕄} {p : Pr nD τ sig Λ F α} {a : α}
    (hp : Tr defs c E iprop(A ∗ B) p iprop(A' ∗ B') a) (R : sProp 𝕄) :
    Tr defs c E iprop(A ∗ B ∗ R) p iprop(A' ∗ B' ∗ R) a := by
  refine (hp.frame R).mono ?_ ?_
  · iintro ⟨H1, H2, H3⟩
    isplitr [H3]
    · isplitl [H1]; · iexact H1
      iexact H2
    iexact H3
  · iintro ⟨⟨H1, H2⟩, H3⟩
    isplitl [H1]; · iexact H1
    isplitl [H2]; · iexact H2
    iexact H3

/-- The ring's contents named. -/
theorem Tr.ring {e : EltTy} {cv : FVec F Sv .f32 → Sv.Idx → Elt F e} {g : Memref sig .tc .vmem Sg e}
    {S : ℕ → FVec F Sv .f32} {z m : ℕ} {α : Type} {T T' : sProp 𝕄} {p : Pr nD τ sig Λ F α} {a : α}
    (h : ∀ G, Holds cv S z m G → Tr defs c E iprop(owns (c : Thread nD τ) g fullShare G ∗ T) p
      iprop(owns (c : Thread nD τ) g fullShare G ∗ T') a) :
    Tr defs c E iprop(ringOwn (τ := τ) cv g S z m c ∗ T) p iprop(ringOwn (τ := τ) cv g S z m c ∗ T') a := by
  intro R K hK
  unfold ringOwn at *
  iintro ⟨⟨⟨%G, %hG, H⟩, HT⟩, HR⟩
  iapply (h G hG R K ?_)
  · refine BIBase.Entails.trans ?_ hK
    iintro ⟨⟨H, HT⟩, HR⟩
    isplitr [HR]
    · isplitr [HT]
      · iexists G
        isplitr
        · ipureintro; exact hG
        iexact H
      iexact HT
    iexact HR
  isplitr [HR]
  · isplitl [H]; · iexact H
    iexact HT
  iexact HR
end

/-! ## Storing the planes of eight channels -/

section Store
variable (V : Fin 8 → Fin 8 → FVec F Sp .f32)

/-- The output block with the planes before `z` and, of plane `z`, the channels before `c`. -/
def outPart (O : (Sb 8 8).Idx → F .f32) (z c : ℕ) : (Sb 8 8).Idx → F .f32 := cur4 fun c' z' y x =>
  if z'.val < z ∨ (z'.val = z ∧ c'.val < c) then V z' c' (ix2 y x) else O (ix4 c' z' y x)

/-- The low halo output after the planes before `z` and, of plane `z`, the channels before `c`. -/
def loPart (O : (Sb 8 1).Idx → F .f32) (z c : ℕ) : (Sb 8 1).Idx → F .f32 := cur4 fun c' z' y x =>
  if 0 < z ∨ c'.val < c then V 0 c' (ix2 y x) else O (ix4 c' z' y x)

/-- The high halo output. -/
def hiPart (O : (Sb 8 1).Idx → F .f32) (z c : ℕ) : (Sb 8 1).Idx → F .f32 := cur4 fun c' z' y x =>
  if 7 < z ∨ (z = 7 ∧ c'.val < c) then V 7 c' (ix2 y x) else O (ix4 c' z' y x)

/-- The whole block. -/
def outAll : (Sb 8 8).Idx → F .f32 := cur4 fun c z y x => V z c (ix2 y x)
/-- Its first plane. -/
def loAll : (Sb 8 1).Idx → F .f32 := cur4 fun c _ y x => V 0 c (ix2 y x)
/-- Its last plane. -/
def hiAll : (Sb 8 1).Idx → F .f32 := cur4 fun c _ y x => V 7 c (ix2 y x)

variable {V}
theorem outPart_apply (O : (Sb 8 8).Idx → F .f32) (z c : ℕ) (c' z' : Fin 8) (y x : Fin 128) :
    outPart V O z c (ix4 c' z' y x)
      = if z'.val < z ∨ (z'.val = z ∧ c'.val < c) then V z' c' (ix2 y x) else O (ix4 c' z' y x) := rfl
theorem loPart_apply (O : (Sb 8 1).Idx → F .f32) (z c : ℕ) (c' : Fin 8) (z' : Fin 1) (y x : Fin 128) :
    loPart V O z c (ix4 c' z' y x) = if 0 < z ∨ c'.val < c then V 0 c' (ix2 y x) else O (ix4 c' z' y x) := rfl
theorem hiPart_apply (O : (Sb 8 1).Idx → F .f32) (z c : ℕ) (c' : Fin 8) (z' : Fin 1) (y x : Fin 128) :
    hiPart V O z c (ix4 c' z' y x) = if 7 < z ∨ (z = 7 ∧ c'.val < c) then V 7 c' (ix2 y x) else O (ix4 c' z' y x) := rfl

theorem outPart_step (O : (Sb 8 8).Idx → F .f32) (z c : Fin 8) (h : Sp.ShapeCasts Sr1) :
    (cellRect 8 8 c z).overlay (outPart V O z.val c.val) (shapeCast Sr1 (V z c) h) = outPart V O z.val (c.val + 1) := by
  apply ext4
  intro c' z' y x
  rw [overlay_cell, outPart_apply, outPart_apply]
  by_cases h1 : c' = c ∧ z' = z
  · obtain ⟨rfl, rfl⟩ := h1
    rw [if_pos ⟨rfl, rfl⟩, if_pos (Or.inr ⟨rfl, by omega⟩)]
  · rw [if_neg h1]
    have h2 : ¬ (c'.val = c.val ∧ z'.val = z.val) := fun h => h1 ⟨Fin.ext h.1, Fin.ext h.2⟩
    by_cases h3 : z'.val < z.val ∨ (z'.val = z.val ∧ c'.val < c.val)
    · rw [if_pos h3, if_pos (by omega)]
    · rw [if_neg h3, if_neg (by omega)]

theorem loPart_step (O : (Sb 8 1).Idx → F .f32) (c : Fin 8) (h : Sp.ShapeCasts Sr1) :
    (cellRect 8 1 c 0).overlay (loPart V O 0 c.val) (shapeCast Sr1 (V 0 c) h) = loPart V O 0 (c.val + 1) := by
  apply ext4
  intro c' z' y x
  rw [overlay_cell, loPart_apply, loPart_apply]
  have hz : z' = 0 := Subsingleton.elim _ _
  by_cases h1 : c' = c
  · subst h1
    rw [if_pos ⟨rfl, hz⟩, if_pos (by omega)]
  · rw [if_neg (fun h => h1 h.1)]
    have h2 : c'.val ≠ c.val := fun h => h1 (Fin.ext h)
    by_cases h3 : c'.val < c.val
    · rw [if_pos (by omega), if_pos (by omega)]
    · rw [if_neg (by omega), if_neg (by omega)]

theorem hiPart_step (O : (Sb 8 1).Idx → F .f32) (c : Fin 8) (h : Sp.ShapeCasts Sr1) :
    (cellRect 8 1 c 0).overlay (hiPart V O 7 c.val) (shapeCast Sr1 (V 7 c) h) = hiPart V O 7 (c.val + 1) := by
  apply ext4
  intro c' z' y x
  rw [overlay_cell, hiPart_apply, hiPart_apply]
  have hz : z' = 0 := Subsingleton.elim _ _
  by_cases h1 : c' = c
  · subst h1
    rw [if_pos ⟨rfl, hz⟩, if_pos (by omega)]
  · rw [if_neg (fun h => h1 h.1)]
    have h2 : c'.val ≠ c.val := fun h => h1 (Fin.ext h)
    by_cases h3 : c'.val < c.val
    · rw [if_pos (by omega), if_pos (by omega)]
    · rw [if_neg (by omega), if_neg (by omega)]

theorem outPart_zero (O : (Sb 8 8).Idx → F .f32) : outPart V O 0 0 = O := by
  apply ext4; intro c z y x; rw [outPart_apply, if_neg (by omega)]
theorem loPart_zero (O : (Sb 8 1).Idx → F .f32) : loPart V O 0 0 = O := by
  apply ext4; intro c z y x; rw [loPart_apply, if_neg (by omega)]
theorem hiPart_zero (O : (Sb 8 1).Idx → F .f32) : hiPart V O 0 0 = O := by
  apply ext4; intro c z y x; rw [hiPart_apply, if_neg (by omega)]
theorem outPart_all (O : (Sb 8 8).Idx → F .f32) : outPart V O 8 0 = outAll V := by
  apply ext4; intro c z y x; rw [outPart_apply, if_pos (by omega)]; rfl
theorem loPart_all (O : (Sb 8 1).Idx → F .f32) : loPart V O 8 0 = loAll V := by
  apply ext4; intro c z y x; rw [loPart_apply, if_pos (by omega)]; rfl
theorem hiPart_all (O : (Sb 8 1).Idx → F .f32) : hiPart V O 8 0 = hiAll V := by
  apply ext4; intro c z y x; rw [hiPart_apply, if_pos (by omega)]; rfl
theorem outPart_next (O : (Sb 8 8).Idx → F .f32) (z : ℕ) : outPart V O z 8 = outPart V O (z + 1) 0 := by
  apply ext4; intro c z' y x
  rw [outPart_apply, outPart_apply]
  by_cases h : z'.val < z + 1
  · rw [if_pos (by omega), if_pos (by omega)]
  · rw [if_neg (by omega), if_neg (by omega)]
theorem loPart_next (O : (Sb 8 1).Idx → F .f32) (z : ℕ) : loPart V O z 8 = loPart V O (z + 1) 0 := by
  apply ext4; intro c z' y x
  rw [loPart_apply, loPart_apply]
  rw [if_pos (by omega), if_pos (by omega)]
theorem hiPart_next (O : (Sb 8 1).Idx → F .f32) (z : ℕ) : hiPart V O z 8 = hiPart V O (z + 1) 0 := by
  apply ext4; intro c z' y x
  rw [hiPart_apply, hiPart_apply]
  by_cases h : 7 < z + 1
  · rw [if_pos (by omega), if_pos (by omega)]
  · rw [if_neg (by omega), if_neg (by omega)]
theorem loPart_pos (O : (Sb 8 1).Idx → F .f32) (z c c' : ℕ) (h : 0 < z) : loPart V O z c = loPart V O z c' := by
  apply ext4; intro a z' y x
  rw [loPart_apply, loPart_apply, if_pos (Or.inl h), if_pos (Or.inl h)]
theorem hiPart_ne (O : (Sb 8 1).Idx → F .f32) (z c c' : ℕ) (h : z ≠ 7) : hiPart V O z c = hiPart V O z c' := by
  apply ext4; intro a z' y x
  rw [hiPart_apply, hiPart_apply]
  by_cases h1 : 7 < z
  · rw [if_pos (Or.inl h1), if_pos (Or.inl h1)]
  · rw [if_neg (by omega), if_neg (by omega)]

variable {defs : Defs nD τ sig (Elt F) Λ} {dev : Dev nD} {E : Set ℕ}
  (o : Memref sig .tc .vmem (Sb 8 8) .f32) (ol oh : Memref sig .tc .vmem (Sb 8 1) .f32)
  (O : (Sb 8 8).Idx → F .f32) (L H : (Sb 8 1).Idx → F .f32)

/-- The three output blocks, part written. -/
def outsOwn (V : Fin 8 → Fin 8 → FVec F Sp .f32) (z c : ℕ) (dev : Dev nD) : sProp 𝕄 :=
  iprop(owns (dev : Thread nD τ) o fullShare (outPart V O z c) ∗ owns (dev : Thread nD τ) ol fullShare (loPart V L z c)
    ∗ owns (dev : Thread nD τ) oh fullShare (hiPart V H z c))

/-- One plane of one channel stored. -/
theorem Tr.put {n d : ℕ} (o : Memref sig .tc .vmem (Sb n d) .f32) (c : Fin n) (z : Fin d) (v : FVec F Sp .f32)
    (X : (Sb n d).Idx → F .f32) :
    Tr defs dev E (owns (dev : Thread nD τ) o fullShare X) (put o c z v : Pr nD τ sig Λ F _)
      (owns (dev : Thread nD τ) o fullShare ((cellRect n d c z).overlay X (shapeCast Sr1 v (by decide)))) ⟨⟩ :=
  (Tr.ld o _ _ _ _).bind (Tr.st o _ _ _ _)

/-- One channel's plane stored in the output and, where it is the first or the last, in a halo output. -/
theorem Tr.putAll (z c : Fin 8) :
    Tr defs dev E (outsOwn (τ := τ) o ol oh O L H V z.val c.val dev) (putAll o ol oh z c (V z c) : Pr nD τ sig Λ F _)
      (outsOwn (τ := τ) o ol oh O L H V z.val (c.val + 1) dev) ⟨⟩ := by
  unfold outsOwn
  refine (((Tr.put o c z (V z c) _).post (congrArg _ (outPart_step O z c _))).frame _).bind ?_
  refine Tr.skip ?_ _
  by_cases h0 : z.val = 0
  · obtain rfl : z = 0 := Fin.ext h0
    rw [if_pos (show (0 : Fin 8).val = 0 from rfl)]
    refine (((Tr.put ol c 0 (V 0 c) _).post (congrArg _ (loPart_step L c _))).frame _).mono .rfl ?_
    rw [hiPart_ne H _ _ (c.val + 1) (show (0 : Fin 8).val ≠ 7 by decide)]
    exact .rfl
  · rw [if_neg h0, loPart_pos L z.val c.val (c.val + 1) (by omega)]
    by_cases h7 : z.val = 7
    · obtain rfl : z = 7 := Fin.ext h7
      rw [if_pos (show (7 : Fin 8).val = 7 from rfl)]
      exact ((Tr.put oh c 0 (V 7 c) _).post (congrArg _ (hiPart_step H c _))).skip _
    · rw [if_neg h7, hiPart_ne H z.val c.val (c.val + 1) h7]
      exact Tr.ret _

end Store

/-! ## The adaptive convolution -/

/-- One row of the ring: channel `c` of shift `k` of slab `s`. -/
def planeOf {e : EltTy} (cv : FVec F Sv .f32 → Sv.Idx → Elt F e) (S : ℕ → FVec F Sv .f32) (s k : ℕ) (c : Fin 8) :
    Sp.Idx → Elt F e := cur2 fun y x => cv (shift k (S s)) (ix3 c y x)

/-- One slot of the ring: the nine shifts of the eight channels of slab `s`. -/
def slotOf {e : EltTy} (cv : FVec F Sv .f32 → Sv.Idx → Elt F e) (S : ℕ → FVec F Sv .f32) (s : ℕ) :
    (⟨3, ![72, 128, 128]⟩ : Shape).Idx → Elt F e :=
  cur3 fun r y x => cv (shift (r.val / 8) (S s)) (ix3 (rowChan r) y x)

/-- A row read from a ring that holds the slabs. -/
theorem Holds.row {e : EltTy} {cv : FVec F Sv .f32 → Sv.Idx → Elt F e} {S : ℕ → FVec F Sv .f32} {z : ℕ}
    {G : Sg.Idx → Elt F e} (hG : Holds cv S z 3 G) (d : ℕ) (hd : d < 3) (k : ℕ) (hk : k < 9) (c : Fin 8) (h : Sr1.ShapeCasts Sp) :
    shapeCast (s := Sr1) Sp (at' (rowRect (slot (z + d)) (Own.row k c.val hk c.isLt)) G) h = planeOf cv S (z + d) k c := by
  apply ext2
  intro y x
  rw [read_row, hG d hd]
  have h1 : (Own.row k c.val hk c.isLt).val / 8 = k := by show (8 * k + c.val) / 8 = k; omega
  have h2 : rowChan (Own.row k c.val hk c.isLt) = c := by apply Fin.ext; show (8 * k + c.val) % 8 = c.val; omega
  rw [h1, h2]
  rfl

/-- A slot read from a ring that holds the slabs. -/
theorem Holds.slot {e : EltTy} {cv : FVec F Sv .f32 → Sv.Idx → Elt F e} {S : ℕ → FVec F Sv .f32} {z : ℕ}
    {G : Sg.Idx → Elt F e} (hG : Holds cv S z 3 G) (d : ℕ) (hd : d < 3) (h : Sg72.ShapeCasts ⟨3, ![72, 128, 128]⟩) :
    shapeCast (s := Sg72) ⟨3, ![72, 128, 128]⟩ (at' (slotRect (Own.slot (z + d))) G) h = slotOf cv S (z + d) := by
  apply ext3
  intro r y x
  rw [read_slot, hG d hd]
  rfl

section Adapt
variable (S : ℕ → FVec F Sv .f32) (W : (Sb 27 8).Idx → F .bf16)

/-- The product of tap `t` at plane `z`, channel `c`. -/
def tapProd (z : Fin 8) (t : Fin 27) (c : Fin 8) : FVec F Sp .f32 :=
  mulf (planeOf (e := .f32) id S (z.val + t.val / 9) (t.val % 9) c)
    (extf .f32 (shapeCast (s := Sr1) Sp (at' (cellRect 27 8 t z) W) (by decide)) (by decide))

/-- The sum of the first `n` taps. -/
def tapSum (z : Fin 8) : ℕ → Fin 8 → FVec F Sp .f32
  | 0 => fun _ => broadcast Sp zf
  | n + 1 => fun c => if h : n < 27 then (if n = 0 then tapProd S W z ⟨n, h⟩ c else addf (tapSum z n c) (tapProd S W z ⟨n, h⟩ c))
      else tapSum z n c

/-- The adaptive convolution's block: all 27 taps. -/
def adaptVal (z c : Fin 8) : FVec F Sp .f32 := tapSum S W z 27 c

variable {defs : Defs nD τ sig (Elt F) Λ} {dev : Dev nD} {E : Set ℕ}
  (w : Memref sig .tc .vmem (Sb 27 8) .bf16) (g : Memref sig .tc .vmem Sg .f32) (qw : PosShare TreeShare)

/-- One tap. -/
theorem Tr.tap (z : Fin 8) (G : Sg.Idx → F .f32) (hG : Holds (e := .f32) id S z.val 3 G) (t : Fin 27) :
    Tr defs dev E iprop(owns (dev : Thread nD τ) g fullShare G ∗ owns (dev : Thread nD τ) w qw W)
      (tap w g z t (tapSum S W z t.val) : Pr nD τ sig Λ F _)
      iprop(owns (dev : Thread nD τ) g fullShare G ∗ owns (dev : Thread nD τ) w qw W) (tapSum S W z (t.val + 1)) := by
  refine ((Tr.ld w _ _ _ _).skip _).bind ?_
  refine Tr.bind (Tr.gather 8 _ _ _ fun c => (Tr.ld g _ _ _ _).frame _) ?_
  refine (Tr.ret _).val ?_
  funext c
  rw [hG.row (t.val / 9) (by have := t.isLt; omega) (t.val % 9) (Nat.mod_lt _ (by omega)) c]
  show _ = if h : t.val < 27 then (if t.val = 0 then tapProd S W z ⟨t.val, h⟩ c else addf (tapSum S W z t.val c) (tapProd S W z ⟨t.val, h⟩ c)) else _
  rw [dif_pos t.isLt]
  rfl

variable (o : Memref sig .tc .vmem (Sb 8 8) .f32) (ol oh : Memref sig .tc .vmem (Sb 8 1) .f32)
  (O : (Sb 8 8).Idx → F .f32) (L H : (Sb 8 1).Idx → F .f32)

/-- One output plane. -/
theorem Tr.adaptOut (z : Fin 8) (G : Sg.Idx → F .f32) (hG : Holds (e := .f32) id S z.val 3 G) :
    Tr defs dev E iprop(owns (dev : Thread nD τ) g fullShare G ∗ owns (dev : Thread nD τ) w qw W
        ∗ outsOwn (τ := τ) o ol oh O L H (adaptVal S W) z.val 0 dev)
      (adaptOut w g o ol oh z : Pr nD τ sig Λ F _)
      iprop(owns (dev : Thread nD τ) g fullShare G ∗ owns (dev : Thread nD τ) w qw W
        ∗ outsOwn (τ := τ) o ol oh O L H (adaptVal S W) (z.val + 1) 0 dev) ⟨⟩ := by
  refine ((Tr.loop 27 (fun _ => iprop(owns (dev : Thread nD τ) g fullShare G ∗ owns (dev : Thread nD τ) w qw W))
    (tapSum S W z) _ (fun t => Tr.tap S W w g qw z G hG t)).two _).bind ?_
  refine ((((Tr.loop 8 (fun c => outsOwn (τ := τ) o ol oh O L H (adaptVal S W) z.val c dev) (fun _ => PUnit.unit) _
    (fun c => Tr.putAll o ol oh O L H z c)).post ?_).skip _).skip _)
  unfold outsOwn
  rw [outPart_next, loPart_next, hiPart_next]

variable (a : BitVec 32) (lo : Memref sig .tc .vmem (Sb 8 1) .f32) (cu : Memref sig .tc .vmem (Sb 8 8) .f32)
  (hi : Memref sig .tc .vmem (Sb 8 1) .f32) (ql qc qh : PosShare TreeShare)
  (xlo : (Sb 8 1).Idx → F .f32) (xcu : (Sb 8 8).Idx → F .f32) (xhi : (Sb 8 1).Idx → F .f32)

/-- The adaptive convolution's body leaves the block of `adaptVal`. -/
theorem Tr.adaptBody :
    Tr defs dev E iprop(ins (τ := τ) (F := F) lo cu hi ql qc qh xlo xcu xhi dev
        ∗ (∃ G, owns (dev : Thread nD τ) g fullShare G) ∗ owns (dev : Thread nD τ) w qw W
        ∗ owns (dev : Thread nD τ) o fullShare O ∗ owns (dev : Thread nD τ) ol fullShare L ∗ owns (dev : Thread nD τ) oh fullShare H)
      (adaptBody w g a lo cu hi o ol oh : Pr nD τ sig Λ F _)
      iprop(ins (τ := τ) (F := F) lo cu hi ql qc qh xlo xcu xhi dev
        ∗ (∃ G, owns (dev : Thread nD τ) g fullShare G) ∗ owns (dev : Thread nD τ) w qw W
        ∗ owns (dev : Thread nD τ) o fullShare (outAll (adaptVal (slabVal a xlo xcu xhi) W))
        ∗ owns (dev : Thread nD τ) ol fullShare (loAll (adaptVal (slabVal a xlo xcu xhi) W))
        ∗ owns (dev : Thread nD τ) oh fullShare (hiAll (adaptVal (slabVal a xlo xcu xhi) W))) ⟨⟩ := by
  have h := Tr.overSlabs (defs := defs) (c := dev) (E := E) (e := .f32) id g
    (fun _ _ => View.stores_vmem_bits_univ (show 0 < Sg8.numel by decide) rfl) a lo cu hi ql qc qh xlo xcu xhi
    (fun z => iprop(owns (dev : Thread nD τ) w qw W ∗ outsOwn (τ := τ) o ol oh O L H (adaptVal (slabVal a xlo xcu xhi) W) z 0 dev))
    (Own.adaptOut w g o ol oh)
    (fun z => Tr.ring fun G hG => Tr.adaptOut _ W w g qw o ol oh O L H z G hG)
  unfold outsOwn at h
  rw [outPart_zero, loPart_zero, hiPart_zero, outPart_all, loPart_all, hiPart_all] at h
  exact h
end Adapt

/-! ## The two convolutions -/

section Conv
variable {n : ℕ} (D : DotDims ⟨2, ![n, 72]⟩ ⟨3, ![72, 128, 128]⟩ ⟨3, ![n, 128, 128]⟩)
  (S : ℕ → FVec F Sv .f32) (W : (⟨3, ![3, n, 72]⟩ : Shape).Idx → F .bf16)
  (hs : (⟨3, ![1, n, 72]⟩ : Shape).ShapeCasts ⟨2, ![n, 72]⟩) (hn : 0 < (⟨3, ![1, n, 72]⟩ : Shape).numel)

/-- The slabs rounded to the weights' format. -/
abbrev half (v : FVec F Sv .f32) : Sv.Idx → Elt F .bf16 := truncf .bf16 v (by decide)

/-- The product of depth tap `d` at plane `z`. -/
def dotProd (z : Fin 8) (d : Fin 3) : FVec F ⟨3, ![n, 128, 128]⟩ .f32 :=
  matmul D none (lhsOf (at' (depthRect n d) W) hs) (slotOf (e := .bf16) half S (z.val + d.val))
    (constant ⟨3, ![n, 128, 128]⟩ .f32 0x00000000#32)

/-- The sum of the first `m` depth taps. -/
def dotSum (z : Fin 8) : ℕ → FVec F ⟨3, ![n, 128, 128]⟩ .f32
  | 0 => constant ⟨3, ![n, 128, 128]⟩ .f32 0x00000000#32
  | m + 1 => if h : m < 3 then (if m = 0 then dotProd D S W hs z ⟨m, h⟩ else addf (dotSum z m) (dotProd D S W hs z ⟨m, h⟩))
      else dotSum z m

variable {defs : Defs nD τ sig (Elt F) Λ} {dev : Dev nD} {E : Set ℕ}
  (w : Memref sig .tc .vmem ⟨3, ![3, n, 72]⟩ .bf16) (g : Memref sig .tc .vmem Sg .bf16) (qw : PosShare TreeShare)

/-- The three depth taps. -/
theorem Tr.dots (z : Fin 8) (G : Sg.Idx → F .bf16) (hG : Holds (e := .bf16) half S z.val 3 G) :
    Tr defs dev E iprop(owns (dev : Thread nD τ) g fullShare G ∗ owns (dev : Thread nD τ) w qw W)
      (dots D w g hn hs z : Pr nD τ sig Λ F _)
      iprop(owns (dev : Thread nD τ) g fullShare G ∗ owns (dev : Thread nD τ) w qw W) (dotSum D S W hs z 3) := by
  refine Tr.loop 3 (fun _ => iprop(owns (dev : Thread nD τ) g fullShare G ∗ owns (dev : Thread nD τ) w qw W))
    (dotSum D S W hs z) _ ?_
  intro d
  refine ((Tr.ld w _ _ _ _).skip _).bind ?_
  refine ((Tr.ld g _ _ _ _).frame _).bind ?_
  refine (Tr.ret _).val ?_
  unfold rhsOf
  rw [hG.slot d.val d.isLt]
  show _ = if h : d.val < 3 then (if d.val = 0 then dotProd D S W hs z ⟨d.val, h⟩ else addf (dotSum D S W hs z d.val) (dotProd D S W hs z ⟨d.val, h⟩)) else _
  rw [dif_pos d.isLt]
  rfl
end Conv

section Conv1
variable (D : DotDims ⟨2, ![8, 72]⟩ ⟨3, ![72, 128, 128]⟩ ⟨3, ![8, 128, 128]⟩)
  (S : ℕ → FVec F Sv .f32) (W : (⟨3, ![3, 8, 72]⟩ : Shape).Idx → F .bf16) (B : (⟨2, ![1, 8]⟩ : Shape).Idx → F .f32)

/-- The first convolution's block. -/
def conv1Val (z c : Fin 8) : FVec F Sp .f32 := biasRelu (chan c (dotSum D S W (by decide) z 3)) (B (ix2 0 c))

variable {defs : Defs nD τ sig (Elt F) Λ} {dev : Dev nD} {E : Set ℕ}
  (w : Memref sig .tc .vmem ⟨3, ![3, 8, 72]⟩ .bf16) (b : Memref sig .tc .smem ⟨2, ![1, 8]⟩ .f32)
  (g : Memref sig .tc .vmem Sg .bf16) (qw qb : PosShare TreeShare)
  (o : Memref sig .tc .vmem (Sb 8 8) .f32) (ol oh : Memref sig .tc .vmem (Sb 8 1) .f32)
  (O : (Sb 8 8).Idx → F .f32) (L H : (Sb 8 1).Idx → F .f32)

/-- One bias read. -/
theorem Tr.bias (c : Fin 8) (h1 : (⟨2, ![1, 1]⟩ : Shape).numel = 1) :
    Tr defs dev E (owns (dev : Thread nD τ) b qb B) (smemLoad b (biasRect c) h1 rfl : Pr nD τ sig Λ F _)
      (owns (dev : Thread nD τ) b qb B) (B (ix2 0 c)) := by
  refine (Tr.smem b (biasRect c) h1 rfl qb B).val ?_
  congr 1
  funext a
  apply Fin.ext
  rw [Rect.emb_apply]
  match a with
  | ⟨0, _⟩ =>
    show 0 + 1 * (Shape.Idx.first (s := (biasRect c).shape) (h1.symm ▸ Nat.one_pos) (0 : Fin 2)).val = 0
    have : (Shape.Idx.first (s := (biasRect c).shape) (h1.symm ▸ Nat.one_pos) (0 : Fin 2)).val < 1 := Fin.isLt _
    omega
  | ⟨1, _⟩ =>
    show c.val + 1 * (Shape.Idx.first (s := (biasRect c).shape) (h1.symm ▸ Nat.one_pos) (1 : Fin 2)).val = c.val
    have : (Shape.Idx.first (s := (biasRect c).shape) (h1.symm ▸ Nat.one_pos) (1 : Fin 2)).val < 1 := Fin.isLt _
    omega

/-- One output plane of the first convolution. -/
theorem Tr.conv1Out (z : Fin 8) (G : Sg.Idx → F .bf16) (hG : Holds (e := .bf16) half S z.val 3 G) :
    Tr defs dev E iprop(owns (dev : Thread nD τ) g fullShare G ∗ owns (dev : Thread nD τ) w qw W
        ∗ owns (dev : Thread nD τ) b qb B ∗ outsOwn (τ := τ) o ol oh O L H (conv1Val D S W B) z.val 0 dev)
      (conv1Out D w b g o ol oh z : Pr nD τ sig Λ F _)
      iprop(owns (dev : Thread nD τ) g fullShare G ∗ owns (dev : Thread nD τ) w qw W
        ∗ owns (dev : Thread nD τ) b qb B ∗ outsOwn (τ := τ) o ol oh O L H (conv1Val D S W B) (z.val + 1) 0 dev) ⟨⟩ := by
  refine ((Tr.dots D S W _ _ w g qw z G hG).two _).bind ?_
  refine ((((Tr.loop 8 (fun c => iprop(owns (dev : Thread nD τ) b qb B ∗ outsOwn (τ := τ) o ol oh O L H (conv1Val D S W B) z.val c dev))
    (fun _ => PUnit.unit) _
    (fun c => ((Tr.bias B b qb c _).frame _).bind ((Tr.putAll (V := conv1Val D S W B) o ol oh O L H z c).skip _))).post ?_).skip _).skip _)
  unfold outsOwn
  rw [outPart_next, loPart_next, hiPart_next]

variable (hg : g.IsWhole) (a : BitVec 32) (lo : Memref sig .tc .vmem (Sb 8 1) .f32) (cu : Memref sig .tc .vmem (Sb 8 8) .f32)
  (hi : Memref sig .tc .vmem (Sb 8 1) .f32) (ql qc qh : PosShare TreeShare)
  (xlo : (Sb 8 1).Idx → F .f32) (xcu : (Sb 8 8).Idx → F .f32) (xhi : (Sb 8 1).Idx → F .f32)

/-- The first convolution's body leaves the block of `conv1Val`. -/
theorem Tr.conv1Body :
    Tr defs dev E iprop(ins (τ := τ) (F := F) lo cu hi ql qc qh xlo xcu xhi dev
        ∗ (∃ G, owns (dev : Thread nD τ) g fullShare G) ∗ owns (dev : Thread nD τ) w qw W ∗ owns (dev : Thread nD τ) b qb B
        ∗ owns (dev : Thread nD τ) o fullShare O ∗ owns (dev : Thread nD τ) ol fullShare L ∗ owns (dev : Thread nD τ) oh fullShare H)
      (conv1Body D w b g hg a lo cu hi o ol oh : Pr nD τ sig Λ F _)
      iprop(ins (τ := τ) (F := F) lo cu hi ql qc qh xlo xcu xhi dev
        ∗ (∃ G, owns (dev : Thread nD τ) g fullShare G) ∗ owns (dev : Thread nD τ) w qw W ∗ owns (dev : Thread nD τ) b qb B
        ∗ owns (dev : Thread nD τ) o fullShare (outAll (conv1Val D (slabVal a xlo xcu xhi) W B))
        ∗ owns (dev : Thread nD τ) ol fullShare (loAll (conv1Val D (slabVal a xlo xcu xhi) W B))
        ∗ owns (dev : Thread nD τ) oh fullShare (hiAll (conv1Val D (slabVal a xlo xcu xhi) W B))) ⟨⟩ := by
  have h := Tr.overSlabs (defs := defs) (c := dev) (E := E) (e := .bf16) half g
    (fun a k => View.stores_vmem (show 0 < Sg8.numel by decide) (hg.storeExact_slice rfl _ (packed_shift a k)) (fun _ => rfl))
    a lo cu hi ql qc qh xlo xcu xhi
    (fun z => iprop(owns (dev : Thread nD τ) w qw W ∗ owns (dev : Thread nD τ) b qb B
      ∗ outsOwn (τ := τ) o ol oh O L H (conv1Val D (slabVal a xlo xcu xhi) W B) z 0 dev))
    (Own.conv1Out D w b g o ol oh)
    (fun z => Tr.ring fun G hG => Tr.conv1Out D _ W B w b g qw qb o ol oh O L H z G hG)
  unfold outsOwn at h
  rw [outPart_zero, loPart_zero, hiPart_zero, outPart_all, loPart_all, hiPart_all] at h
  exact h
end Conv1

section Conv2
variable (D : DotDims ⟨2, ![27, 72]⟩ ⟨3, ![72, 128, 128]⟩ ⟨3, ![27, 128, 128]⟩)
  (S : ℕ → FVec F Sv .f32) (W : (⟨3, ![3, 27, 72]⟩ : Shape).Idx → F .bf16)

/-- The second convolution's plane `z`: the normalised filters. -/
def conv2Val (z : Fin 8) : FVec F ⟨3, ![27, 128, 128]⟩ .bf16 := normed (dotSum D S W (by decide) z 3)

/-- The output block with the planes before `z`. -/
def filtPart (V : Fin 8 → FVec F ⟨3, ![27, 128, 128]⟩ .bf16) (O : (Sb 27 8).Idx → F .bf16) (z : ℕ) : (Sb 27 8).Idx → F .bf16 :=
  cur4 fun k z' y x => if z'.val < z then V z' (ix3 k y x) else O (ix4 k z' y x)

/-- The whole block. -/
def filtAll (V : Fin 8 → FVec F ⟨3, ![27, 128, 128]⟩ .bf16) : (Sb 27 8).Idx → F .bf16 :=
  cur4 fun k z y x => V z (ix3 k y x)

theorem filtPart_apply {V : Fin 8 → FVec F ⟨3, ![27, 128, 128]⟩ .bf16} (O : (Sb 27 8).Idx → F .bf16) (z : ℕ)
    (k : Fin 27) (z' : Fin 8) (y x : Fin 128) :
    filtPart V O z (ix4 k z' y x) = if z'.val < z then V z' (ix3 k y x) else O (ix4 k z' y x) := rfl

theorem filtPart_step {V : Fin 8 → FVec F ⟨3, ![27, 128, 128]⟩ .bf16} (O : (Sb 27 8).Idx → F .bf16) (z : Fin 8)
    (h : (⟨3, ![27, 128, 128]⟩ : Shape).ShapeCasts (Sb 27 1)) :
    (planeRect 27 8 z).overlay (filtPart V O z.val) (shapeCast (Sb 27 1) (V z) h) = filtPart V O (z.val + 1) := by
  apply ext4
  intro k z' y x
  rw [overlay_plane, filtPart_apply, filtPart_apply]
  by_cases h1 : z' = z
  · subst h1
    rw [if_pos rfl, if_pos (by omega)]
  · rw [if_neg h1]
    have h2 : z'.val ≠ z.val := fun h => h1 (Fin.ext h)
    by_cases h3 : z'.val < z.val
    · rw [if_pos h3, if_pos (by omega)]
    · rw [if_neg h3, if_neg (by omega)]

theorem filtPart_zero {V : Fin 8 → FVec F ⟨3, ![27, 128, 128]⟩ .bf16} (O : (Sb 27 8).Idx → F .bf16) : filtPart V O 0 = O := by
  apply ext4; intro c z y x; rw [filtPart_apply, if_neg (by omega)]
theorem filtPart_all {V : Fin 8 → FVec F ⟨3, ![27, 128, 128]⟩ .bf16} (O : (Sb 27 8).Idx → F .bf16) : filtPart V O 8 = filtAll V := by
  apply ext4; intro c z y x; rw [filtPart_apply, if_pos (by omega)]; rfl

variable {defs : Defs nD τ sig (Elt F) Λ} {dev : Dev nD} {E : Set ℕ}
  (w : Memref sig .tc .vmem ⟨3, ![3, 27, 72]⟩ .bf16) (g : Memref sig .tc .vmem Sg .bf16) (qw : PosShare TreeShare)
  (o : Memref sig .tc .vmem (Sb 27 8) .bf16) (ho : o.IsWhole) (O : (Sb 27 8).Idx → F .bf16)

/-- One output plane of the second convolution. -/
theorem Tr.conv2Out (z : Fin 8) (G : Sg.Idx → F .bf16) (hG : Holds (e := .bf16) half S z.val 3 G) :
    Tr defs dev E iprop(owns (dev : Thread nD τ) g fullShare G ∗ owns (dev : Thread nD τ) w qw W
        ∗ owns (dev : Thread nD τ) o fullShare (filtPart (conv2Val D S W) O z.val))
      (conv2Out D w g o ho z : Pr nD τ sig Λ F _)
      iprop(owns (dev : Thread nD τ) g fullShare G ∗ owns (dev : Thread nD τ) w qw W
        ∗ owns (dev : Thread nD τ) o fullShare (filtPart (conv2Val D S W) O (z.val + 1))) ⟨⟩ := by
  refine ((Tr.dots D S W _ _ w g qw z G hG).two _).bind ?_
  refine (((Tr.ld o _ _ _ _).skip _).skip _).bind ?_
  exact (((Tr.st o _ _ _ _).post (congrArg _ (filtPart_step (V := conv2Val D S W) O z _))).skip _).skip _

variable (hg : g.IsWhole) (a : BitVec 32) (lo : Memref sig .tc .vmem (Sb 8 1) .f32) (cu : Memref sig .tc .vmem (Sb 8 8) .f32)
  (hi : Memref sig .tc .vmem (Sb 8 1) .f32) (ql qc qh : PosShare TreeShare)
  (xlo : (Sb 8 1).Idx → F .f32) (xcu : (Sb 8 8).Idx → F .f32) (xhi : (Sb 8 1).Idx → F .f32)

/-- The second convolution's body leaves the block of `conv2Val`. -/
theorem Tr.conv2Body :
    Tr defs dev E iprop(ins (τ := τ) (F := F) lo cu hi ql qc qh xlo xcu xhi dev
        ∗ (∃ G, owns (dev : Thread nD τ) g fullShare G) ∗ owns (dev : Thread nD τ) w qw W ∗ owns (dev : Thread nD τ) o fullShare O)
      (conv2Body D w g hg a lo cu hi o ho : Pr nD τ sig Λ F _)
      iprop(ins (τ := τ) (F := F) lo cu hi ql qc qh xlo xcu xhi dev
        ∗ (∃ G, owns (dev : Thread nD τ) g fullShare G) ∗ owns (dev : Thread nD τ) w qw W
        ∗ owns (dev : Thread nD τ) o fullShare (filtAll (conv2Val D (slabVal a xlo xcu xhi) W))) ⟨⟩ := by
  have h := Tr.overSlabs (defs := defs) (c := dev) (E := E) (e := .bf16) half g
    (fun a k => View.stores_vmem (show 0 < Sg8.numel by decide) (hg.storeExact_slice rfl _ (packed_shift a k)) (fun _ => rfl))
    a lo cu hi ql qc qh xlo xcu xhi
    (fun z => iprop(owns (dev : Thread nD τ) w qw W
      ∗ owns (dev : Thread nD τ) o fullShare (filtPart (conv2Val D (slabVal a xlo xcu xhi) W) O z)))
    (Own.conv2Out D w g o ho)
    (fun z => Tr.ring fun G hG => Tr.conv2Out D _ W w g qw o ho O z G hG)
  rw [filtPart_zero, filtPart_all] at h
  exact h
end Conv2

end Cert.Own
-- ==== Proof.Wp.lean ====
module

public import proofs.«01_k».proof.Proof.Outs

/-!
# The three bodies at a grid point

The theorems on the bodies in the shape in which a grid point hands over its resources: the ring and what else the
launch keeps (`A`, `B`, `C`), the input blocks, the output blocks at some contents.
-/

@[expose] public section

noncomputable section

namespace Cert.Own

open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Λ : Labels} {F : FTy → Type} [FloatOps F]

local notation "𝕄" => MT nD τ sig Unit (Elt F) ℕ (UR sig nD τ) ℕ

variable {defs : Defs nD τ sig (Elt F) Λ} {dev : Dev nD} {E : Set ℕ}
  (a : BitVec 32) (lo : Memref sig .tc .vmem (Sb 8 1) .f32) (cu : Memref sig .tc .vmem (Sb 8 8) .f32)
  (hi : Memref sig .tc .vmem (Sb 8 1) .f32)
  (xlo : (Sb 8 1).Idx → F .f32) (xcu : (Sb 8 8).Idx → F .f32) (xhi : (Sb 8 1).Idx → F .f32)
  {D0 D1 D2 D3 D4 D5 D6 D7 : Type}

/-- The adaptive convolution's body at a grid point. -/
theorem adapt_wp (A B C : sProp 𝕄) (w : Memref sig .tc .vmem (Sb 27 8) .bf16) (g : Memref sig .tc .vmem Sg .f32) (W : (Sb 27 8).Idx → F .bf16)
    (o : Memref sig .tc .vmem (Sb 8 8) .f32) (ol oh : Memref sig .tc .vmem (Sb 8 1) .f32)
    (O : D4 → (Sb 8 8).Idx → F .f32) (L : D5 → (Sb 8 1).Idx → F .f32) (H : D6 → (Sb 8 1).Idx → F .f32) :
    iprop((((∃ G, owns (dev : Thread nD τ) g fullShare G) ∗ A) ∗ B) ∗ C
        ∗ (∃ _ : D0, owns (dev : Thread nD τ) lo fullShare xlo) ∗ (∃ _ : D1, owns (dev : Thread nD τ) cu fullShare xcu)
        ∗ (∃ _ : D2, owns (dev : Thread nD τ) hi fullShare xhi) ∗ (∃ _ : D3, owns (dev : Thread nD τ) w fullShare W)
        ∗ (∃ d, owns (dev : Thread nD τ) o fullShare (O d)) ∗ (∃ d, owns (dev : Thread nD τ) ol fullShare (L d))
        ∗ (∃ d, owns (dev : Thread nD τ) oh fullShare (H d)))
      ⊢ wp frame (wpE defs Variants.none (dev : Thread nD τ) none) E (adaptBody w g a lo cu hi o ol oh : Pr nD τ sig Λ F PUnit)
        (fun _ => (iprop((((∃ G, owns (dev : Thread nD τ) g fullShare G) ∗ A) ∗ B) ∗ C
        ∗ owns (dev : Thread nD τ) lo fullShare xlo ∗ owns (dev : Thread nD τ) cu fullShare xcu
        ∗ owns (dev : Thread nD τ) hi fullShare xhi ∗ owns (dev : Thread nD τ) w fullShare W
        ∗ owns (dev : Thread nD τ) o fullShare (outAll (adaptVal (slabVal a xlo xcu xhi) W))
        ∗ owns (dev : Thread nD τ) ol fullShare (loAll (adaptVal (slabVal a xlo xcu xhi) W))
        ∗ owns (dev : Thread nD τ) oh fullShare (hiAll (adaptVal (slabVal a xlo xcu xhi) W))) : sProp 𝕄)) := by
  have h := fun d4 d5 d6 => Tr.adaptBody (defs := defs) (dev := dev) (E := E) W w g fullShare o ol oh (O d4) (L d5) (H d6) a lo cu hi
    fullShare fullShare fullShare xlo xcu xhi
    iprop((A ∗ B) ∗ C)
  iintro ⟨⟨⟨HG, HA⟩, HB⟩, HC, ⟨%d0, H0⟩, ⟨%d1, H1⟩, ⟨%d2, H2⟩, ⟨%d3, H3⟩, ⟨%d4, H4⟩, ⟨%d5, H5⟩, ⟨%d6, H6⟩⟩
  iapply (h d4 d5 d6 _ ?_)
  · iintro ⟨⟨⟨H0, H1, H2⟩, HG, H3, H4, H5, H6⟩, ⟨HA, HB⟩, HC⟩
    isplitl [HG HA HB]
    · isplitl [HG HA]
      · isplitl [HG]; · iexact HG
        iexact HA
      iexact HB
    isplitl [HC]; · iexact HC
    isplitl [H0]; · iexact H0
    isplitl [H1]; · iexact H1
    isplitl [H2]; · iexact H2
    isplitl [H3]; · iexact H3
    isplitl [H4]; · iexact H4
    isplitl [H5]; · iexact H5
    iexact H6
  isplitr [HA HB HC]
  · isplitl [H0 H1 H2]
    · isplitl [H0]; · iexact H0
      isplitl [H1]; · iexact H1
      iexact H2
    isplitl [HG]; · iexact HG
    isplitl [H3]; · iexact H3
    isplitl [H4]; · iexact H4
    isplitl [H5]; · iexact H5
    iexact H6
  isplitr [HC]
  · isplitl [HA]; · iexact HA
    iexact HB
  iexact HC

/-- The first convolution's body at a grid point. -/
theorem conv1_wp (A B C : sProp 𝕄) (D : DotDims ⟨2, ![8, 72]⟩ ⟨3, ![72, 128, 128]⟩ ⟨3, ![8, 128, 128]⟩)
    (w : Memref sig .tc .vmem ⟨3, ![3, 8, 72]⟩ .bf16) (b : Memref sig .tc .smem ⟨2, ![1, 8]⟩ .f32)
    (g : Memref sig .tc .vmem Sg .bf16) (hg : g.IsWhole)
    (W : (⟨3, ![3, 8, 72]⟩ : Shape).Idx → F .bf16) (Bs : (⟨2, ![1, 8]⟩ : Shape).Idx → F .f32)
    (o : Memref sig .tc .vmem (Sb 8 8) .f32) (ol oh : Memref sig .tc .vmem (Sb 8 1) .f32)
    (O : D5 → (Sb 8 8).Idx → F .f32) (L : D6 → (Sb 8 1).Idx → F .f32) (H : D7 → (Sb 8 1).Idx → F .f32) :
    iprop((((∃ G, owns (dev : Thread nD τ) g fullShare G) ∗ A) ∗ B) ∗ C
        ∗ (∃ _ : D0, owns (dev : Thread nD τ) lo fullShare xlo) ∗ (∃ _ : D1, owns (dev : Thread nD τ) cu fullShare xcu)
        ∗ (∃ _ : D2, owns (dev : Thread nD τ) hi fullShare xhi) ∗ (∃ _ : D3, owns (dev : Thread nD τ) w fullShare W)
        ∗ (∃ _ : D4, owns (dev : Thread nD τ) b fullShare Bs)
        ∗ (∃ d, owns (dev : Thread nD τ) o fullShare (O d)) ∗ (∃ d, owns (dev : Thread nD τ) ol fullShare (L d))
        ∗ (∃ d, owns (dev : Thread nD τ) oh fullShare (H d)))
      ⊢ wp frame (wpE defs Variants.none (dev : Thread nD τ) none) E (conv1Body D w b g hg a lo cu hi o ol oh : Pr nD τ sig Λ F PUnit)
        (fun _ => (iprop((((∃ G, owns (dev : Thread nD τ) g fullShare G) ∗ A) ∗ B) ∗ C
        ∗ owns (dev : Thread nD τ) lo fullShare xlo ∗ owns (dev : Thread nD τ) cu fullShare xcu
        ∗ owns (dev : Thread nD τ) hi fullShare xhi ∗ owns (dev : Thread nD τ) w fullShare W
        ∗ owns (dev : Thread nD τ) b fullShare Bs
        ∗ owns (dev : Thread nD τ) o fullShare (outAll (conv1Val D (slabVal a xlo xcu xhi) W Bs))
        ∗ owns (dev : Thread nD τ) ol fullShare (loAll (conv1Val D (slabVal a xlo xcu xhi) W Bs))
        ∗ owns (dev : Thread nD τ) oh fullShare (hiAll (conv1Val D (slabVal a xlo xcu xhi) W Bs))) : sProp 𝕄)) := by
  have h := fun d4 d5 d6 => Tr.conv1Body (defs := defs) (dev := dev) (E := E) D W Bs w b g fullShare fullShare o ol oh (O d4) (L d5) (H d6) hg a
    lo cu hi fullShare fullShare fullShare xlo xcu xhi
    iprop((A ∗ B) ∗ C)
  iintro ⟨⟨⟨HG, HA⟩, HB⟩, HC, ⟨%d0, H0⟩, ⟨%d1, H1⟩, ⟨%d2, H2⟩, ⟨%d3, H3⟩, ⟨%d4, H4⟩, ⟨%d5, H5⟩, ⟨%d6, H6⟩, ⟨%d7, H7⟩⟩
  iapply (h d5 d6 d7 _ ?_)
  · iintro ⟨⟨⟨H0, H1, H2⟩, HG, H3, H4, H5, H6, H7⟩, ⟨HA, HB⟩, HC⟩
    isplitl [HG HA HB]
    · isplitl [HG HA]
      · isplitl [HG]; · iexact HG
        iexact HA
      iexact HB
    isplitl [HC]; · iexact HC
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitr [HA HB HC]
  · isplitl [H0 H1 H2]
    · isplitl [H0]; · iexact H0
      isplitl [H1]; · iexact H1
      iexact H2
    isplitl [HG]; · iexact HG
    isplitl [H3]; · iexact H3
    isplitl [H4]; · iexact H4
    isplitl [H5]; · iexact H5
    isplitl [H6]; · iexact H6
    iexact H7
  isplitr [HC]
  · isplitl [HA]; · iexact HA
    iexact HB
  iexact HC

/-- The second convolution's body at a grid point. -/
theorem conv2_wp (A B C : sProp 𝕄) (D : DotDims ⟨2, ![27, 72]⟩ ⟨3, ![72, 128, 128]⟩ ⟨3, ![27, 128, 128]⟩)
    (w : Memref sig .tc .vmem ⟨3, ![3, 27, 72]⟩ .bf16) (g : Memref sig .tc .vmem Sg .bf16) (hg : g.IsWhole)
    (W : (⟨3, ![3, 27, 72]⟩ : Shape).Idx → F .bf16)
    (o : Memref sig .tc .vmem (Sb 27 8) .bf16) (ho : o.IsWhole) (O : D4 → (Sb 27 8).Idx → F .bf16) :
    iprop((((∃ G, owns (dev : Thread nD τ) g fullShare G) ∗ A) ∗ B) ∗ C
        ∗ (∃ _ : D0, owns (dev : Thread nD τ) lo fullShare xlo) ∗ (∃ _ : D1, owns (dev : Thread nD τ) cu fullShare xcu)
        ∗ (∃ _ : D2, owns (dev : Thread nD τ) hi fullShare xhi) ∗ (∃ _ : D3, owns (dev : Thread nD τ) w fullShare W)
        ∗ (∃ d, owns (dev : Thread nD τ) o fullShare (O d)))
      ⊢ wp frame (wpE defs Variants.none (dev : Thread nD τ) none) E (conv2Body D w g hg a lo cu hi o ho : Pr nD τ sig Λ F PUnit)
        (fun _ => (iprop((((∃ G, owns (dev : Thread nD τ) g fullShare G) ∗ A) ∗ B) ∗ C
        ∗ owns (dev : Thread nD τ) lo fullShare xlo ∗ owns (dev : Thread nD τ) cu fullShare xcu
        ∗ owns (dev : Thread nD τ) hi fullShare xhi ∗ owns (dev : Thread nD τ) w fullShare W
        ∗ owns (dev : Thread nD τ) o fullShare (filtAll (conv2Val D (slabVal a xlo xcu xhi) W))) : sProp 𝕄)) := by
  have h := fun d4 => Tr.conv2Body (defs := defs) (dev := dev) (E := E) D W w g fullShare o ho (O d4) hg a
    lo cu hi fullShare fullShare fullShare xlo xcu xhi
    iprop((A ∗ B) ∗ C)
  iintro ⟨⟨⟨HG, HA⟩, HB⟩, HC, ⟨%d0, H0⟩, ⟨%d1, H1⟩, ⟨%d2, H2⟩, ⟨%d3, H3⟩, ⟨%d4, H4⟩⟩
  iapply (h d4 _ ?_)
  · iintro ⟨⟨⟨H0, H1, H2⟩, HG, H3, H4⟩, ⟨HA, HB⟩, HC⟩
    isplitl [HG HA HB]
    · isplitl [HG HA]
      · isplitl [HG]; · iexact HG
        iexact HA
      iexact HB
    isplitl [HC]; · iexact HC
    isplitl [H0]; · iexact H0
    isplitl [H1]; · iexact H1
    isplitl [H2]; · iexact H2
    isplitl [H3]; · iexact H3
    iexact H4
  isplitr [HA HB HC]
  · isplitl [H0 H1 H2]
    · isplitl [H0]; · iexact H0
      isplitl [H1]; · iexact H1
      iexact H2
    isplitl [HG]; · iexact HG
    isplitl [H3]; · iexact H3
    iexact H4
  isplitr [HC]
  · isplitl [HA]; · iexact HA
    iexact HB
  iexact HC

end Cert.Own
-- ==== Proof.Call0.lean ====
module

public import proofs.«01_k».proof.Proof.Gen.KernelIdeal.Frame.Region0
public import proofs.«01_k».proof.Proof.BodyEqIdeal
public import proofs.«01_k».proof.Proof.Wp

/-!
# Call 0: the first convolution

The contents of the windows of call 0 after each grid point, in closed form, and the body's obligation against them.
-/

@[expose] public section

set_option maxRecDepth 16384

noncomputable section

namespace Cert.KernelIdeal.Own

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the contents of the buffers when the call is entered
variable (V : (c : Dev nD) → (b : Ref sig .tc) → Buf (Elt F) ((c : Thread nD τ).loc b))

/-- The slabs of the point's tile with its halos. -/
def slabs0 (c : Dev nD) (t : Fin cfg0.N) : ℕ → FVec F Sv .f32 :=
  slabVal (BitVec.ofNat 32 (grid0.coords t 0).val) (iblk0 V c 0 t) (iblk0 V c 1 t) (iblk0 V c 2 t)

/-- The planes the point computes. -/
def blockVal0 (c : Dev nD) (t : Fin cfg0.N) : Fin 8 → Fin 8 → FVec F Sp .f32 :=
  conv1Val dot_S8x72_S72x128x128_S8x128x128_1_0_0_12_n_n (slabs0 V c t) (iblk0 V c 3 t) (iblk0 V c 4 t)

/-- What call 0 leaves at each point: the inputs' buffers at their blocks, the outputs' at the block computed. -/
def vdat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outAll (blockVal0 V c t)
    | ⟨6, _⟩ => loAll (blockVal0 V c t)
    | ⟨7, _⟩ => hiAll (blockVal0 V c t)
  Φ _ := Pipeline.ΦA spec0 c
  q _ := fullShare
  owed _ := 0

theorem vA0 (c : Dev nD) (w : Fin cfg0.W) : (vdat0 V c).A w = V c (Pipeline.arrRef spec0 w) := by
  dsimp only [vdat0]
theorem vafter0_0 (c : Dev nD) (t : Fin cfg0.N) : (vdat0 V c).after 0 t = iblk0 V c 0 t := by dsimp only [vdat0]
theorem vafter0_1 (c : Dev nD) (t : Fin cfg0.N) : (vdat0 V c).after 1 t = iblk0 V c 1 t := by dsimp only [vdat0]
theorem vafter0_2 (c : Dev nD) (t : Fin cfg0.N) : (vdat0 V c).after 2 t = iblk0 V c 2 t := by dsimp only [vdat0]
theorem vafter0_3 (c : Dev nD) (t : Fin cfg0.N) : (vdat0 V c).after 3 t = iblk0 V c 3 t := by dsimp only [vdat0]
theorem vafter0_4 (c : Dev nD) (t : Fin cfg0.N) : (vdat0 V c).after 4 t = iblk0 V c 4 t := by dsimp only [vdat0]
theorem vafter0_5 (c : Dev nD) (t : Fin cfg0.N) : (vdat0 V c).after 5 t = outAll (blockVal0 V c t) := by dsimp only [vdat0]
theorem vafter0_6 (c : Dev nD) (t : Fin cfg0.N) : (vdat0 V c).after 6 t = loAll (blockVal0 V c t) := by dsimp only [vdat0]
theorem vafter0_7 (c : Dev nD) (t : Fin cfg0.N) : (vdat0 V c).after 7 t = hiAll (blockVal0 V c t) := by dsimp only [vdat0]
theorem vbefore0_0 (c : Dev nD) (t : Fin cfg0.N) (d) : (vdat0 V c).before 0 t d = iblk0 V c 0 t :=
  before0_0_of V (vdat0 V c) (vA0 V c 0) (vafter0_0 V c) t d
theorem vbefore0_1 (c : Dev nD) (t : Fin cfg0.N) (d) : (vdat0 V c).before 1 t d = iblk0 V c 1 t :=
  before0_1_of V (vdat0 V c) (vA0 V c 1) (vafter0_1 V c) t d
theorem vbefore0_2 (c : Dev nD) (t : Fin cfg0.N) (d) : (vdat0 V c).before 2 t d = iblk0 V c 2 t :=
  before0_2_of V (vdat0 V c) (vA0 V c 2) (vafter0_2 V c) t d
theorem vbefore0_3 (c : Dev nD) (t : Fin cfg0.N) (d) : (vdat0 V c).before 3 t d = iblk0 V c 3 t :=
  before0_3_of V (vdat0 V c) (vA0 V c 3) (vafter0_3 V c) t d
theorem vbefore0_4 (c : Dev nD) (t : Fin cfg0.N) (d) : (vdat0 V c).before 4 t d = iblk0 V c 4 t :=
  before0_4_of V (vdat0 V c) (vA0 V c 4) (vafter0_4 V c) t d

/-- What the body is called with at point `t`. -/
def vpre0 (c : Dev nD) (t : Fin cfg0.N) : sProp 𝕄 :=
  iprop((vdat0 V c).Φ t.castSucc ∗ (vdat0 V c).owesAt () t.castSucc
    ∗ (∃ d, owns (c : Thread nD τ) (ms0_0 t) fullShare ((vdat0 V c).before 0 t d))
    ∗ (∃ d, owns (c : Thread nD τ) (ms0_1 t) fullShare ((vdat0 V c).before 1 t d))
    ∗ (∃ d, owns (c : Thread nD τ) (ms0_2 t) fullShare ((vdat0 V c).before 2 t d))
    ∗ (∃ d, owns (c : Thread nD τ) (ms0_3 t) fullShare ((vdat0 V c).before 3 t d))
    ∗ (∃ d, owns (c : Thread nD τ) (ms0_4 t) fullShare ((vdat0 V c).before 4 t d))
    ∗ (∃ d, owns (c : Thread nD τ) (ms0_5 t) fullShare ((vdat0 V c).before 5 t d))
    ∗ (∃ d, owns (c : Thread nD τ) (ms0_6 t) fullShare ((vdat0 V c).before 6 t d))
    ∗ (∃ d, owns (c : Thread nD τ) (ms0_7 t) fullShare ((vdat0 V c).before 7 t d)))

/-- What the body returns at point `t`. -/
def vpost0 (c : Dev nD) (t : Fin cfg0.N) : sProp 𝕄 :=
  iprop((vdat0 V c).Φ t.succ ∗ (vdat0 V c).owesAt () t.succ
    ∗ owns (c : Thread nD τ) (ms0_0 t) fullShare ((vdat0 V c).after 0 t)
    ∗ owns (c : Thread nD τ) (ms0_1 t) fullShare ((vdat0 V c).after 1 t)
    ∗ owns (c : Thread nD τ) (ms0_2 t) fullShare ((vdat0 V c).after 2 t)
    ∗ owns (c : Thread nD τ) (ms0_3 t) fullShare ((vdat0 V c).after 3 t)
    ∗ owns (c : Thread nD τ) (ms0_4 t) fullShare ((vdat0 V c).after 4 t)
    ∗ owns (c : Thread nD τ) (ms0_5 t) fullShare ((vdat0 V c).after 5 t)
    ∗ owns (c : Thread nD τ) (ms0_6 t) fullShare ((vdat0 V c).after 6 t)
    ∗ owns (c : Thread nD τ) (ms0_7 t) fullShare ((vdat0 V c).after 7 t))

/-- The body at any point leaves the blocks `vdat0` names. -/
theorem vsound0 (c : Dev nD) (t : Fin cfg0.N) :
    vpre0 V c t ⊢ wp frame (wpE (defs₀ (F := F)) Variants.none c none) Set.univ (bodyAt0 t) (fun _ => vpost0 V c t) := by
  unfold vpre0 vpost0 bodyAt0
  simp only [vbefore0_0, vbefore0_1, vbefore0_2, vbefore0_3, vbefore0_4]
  rw [show (vdat0 V c).Φ t.succ = (vdat0 V c).Φ t.castSucc from rfl,
    show (vdat0 V c).owesAt () t.succ = (vdat0 V c).owesAt () t.castSucc from rfl,
    vafter0_0, vafter0_1, vafter0_2, vafter0_3, vafter0_4, vafter0_5, vafter0_6, vafter0_7]
  rw [show (vdat0 V c).Φ t.castSucc = Pipeline.ΦA spec0 c from rfl, PhiA0_eq, body0_eq]
  exact conv1_wp (F := F) _ _ _ _ _ _ _ _ _ _ _ _ _ _ _ _ _ _ _ _ _ _ _

/-- The body's obligation at every point. -/
theorem vbody0 (c : Dev nD) : BodyObligation (vdat0 (F := F) V c) (defs₀ (F := F)) Variants.none () Set.univ := fun t => by
  rw [bigSep_W0, bigSep_W0, defs₀_row0]
  exact triple_restated (vsound0 V c t) rfl .rfl fun _ => .rfl

end Cert.KernelIdeal.Own
-- ==== Proof.Call1.lean ====
module

public import proofs.«01_k».proof.Proof.Gen.KernelIdeal.Frame.Region1
public import proofs.«01_k».proof.Proof.BodyEqIdeal
public import proofs.«01_k».proof.Proof.Wp

/-!
# Call 1: the second convolution

The contents of the windows of call 1 after each grid point, in closed form, and the body's obligation against them.
-/

@[expose] public section

set_option maxRecDepth 16384

noncomputable section

namespace Cert.KernelIdeal.Own

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the contents of the buffers when the call is entered
variable (V : (c : Dev nD) → (b : Ref sig .tc) → Buf (Elt F) ((c : Thread nD τ).loc b))

/-- The slabs of the point's tile with its halos. -/
def slabs1 (c : Dev nD) (t : Fin cfg1.N) : ℕ → FVec F Sv .f32 :=
  slabVal (BitVec.ofNat 32 (grid1.coords t 0).val) (iblk1 V c 0 t) (iblk1 V c 1 t) (iblk1 V c 2 t)

/-- The planes the point computes. -/
def blockVal1 (c : Dev nD) (t : Fin cfg1.N) : Fin 8 → FVec F ⟨3, ![27, 128, 128]⟩ .bf16 :=
  conv2Val dot_S27x72_S72x128x128_S27x128x128_1_0_0_12_n_n (slabs1 V c t) (iblk1 V c 3 t)

/-- What call 1 leaves at each point: the inputs' buffers at their blocks, the outputs' at the block computed. -/
def vdat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => filtAll (blockVal1 V c t)
  Φ _ := Pipeline.ΦA spec1 c
  q _ := fullShare
  owed _ := 0

theorem vA1 (c : Dev nD) (w : Fin cfg1.W) : (vdat1 V c).A w = V c (Pipeline.arrRef spec1 w) := by
  dsimp only [vdat1]
theorem vafter1_0 (c : Dev nD) (t : Fin cfg1.N) : (vdat1 V c).after 0 t = iblk1 V c 0 t := by dsimp only [vdat1]
theorem vafter1_1 (c : Dev nD) (t : Fin cfg1.N) : (vdat1 V c).after 1 t = iblk1 V c 1 t := by dsimp only [vdat1]
theorem vafter1_2 (c : Dev nD) (t : Fin cfg1.N) : (vdat1 V c).after 2 t = iblk1 V c 2 t := by dsimp only [vdat1]
theorem vafter1_3 (c : Dev nD) (t : Fin cfg1.N) : (vdat1 V c).after 3 t = iblk1 V c 3 t := by dsimp only [vdat1]
theorem vafter1_4 (c : Dev nD) (t : Fin cfg1.N) : (vdat1 V c).after 4 t = filtAll (blockVal1 V c t) := by dsimp only [vdat1]
theorem vbefore1_0 (c : Dev nD) (t : Fin cfg1.N) (d) : (vdat1 V c).before 0 t d = iblk1 V c 0 t :=
  before1_0_of V (vdat1 V c) (vA1 V c 0) (vafter1_0 V c) t d
theorem vbefore1_1 (c : Dev nD) (t : Fin cfg1.N) (d) : (vdat1 V c).before 1 t d = iblk1 V c 1 t :=
  before1_1_of V (vdat1 V c) (vA1 V c 1) (vafter1_1 V c) t d
theorem vbefore1_2 (c : Dev nD) (t : Fin cfg1.N) (d) : (vdat1 V c).before 2 t d = iblk1 V c 2 t :=
  before1_2_of V (vdat1 V c) (vA1 V c 2) (vafter1_2 V c) t d
theorem vbefore1_3 (c : Dev nD) (t : Fin cfg1.N) (d) : (vdat1 V c).before 3 t d = iblk1 V c 3 t :=
  before1_3_of V (vdat1 V c) (vA1 V c 3) (vafter1_3 V c) t d

/-- What the body is called with at point `t`. -/
def vpre1 (c : Dev nD) (t : Fin cfg1.N) : sProp 𝕄 :=
  iprop((vdat1 V c).Φ t.castSucc ∗ (vdat1 V c).owesAt () t.castSucc
    ∗ (∃ d, owns (c : Thread nD τ) (ms1_0 t) fullShare ((vdat1 V c).before 0 t d))
    ∗ (∃ d, owns (c : Thread nD τ) (ms1_1 t) fullShare ((vdat1 V c).before 1 t d))
    ∗ (∃ d, owns (c : Thread nD τ) (ms1_2 t) fullShare ((vdat1 V c).before 2 t d))
    ∗ (∃ d, owns (c : Thread nD τ) (ms1_3 t) fullShare ((vdat1 V c).before 3 t d))
    ∗ (∃ d, owns (c : Thread nD τ) (ms1_4 t) fullShare ((vdat1 V c).before 4 t d)))

/-- What the body returns at point `t`. -/
def vpost1 (c : Dev nD) (t : Fin cfg1.N) : sProp 𝕄 :=
  iprop((vdat1 V c).Φ t.succ ∗ (vdat1 V c).owesAt () t.succ
    ∗ owns (c : Thread nD τ) (ms1_0 t) fullShare ((vdat1 V c).after 0 t)
    ∗ owns (c : Thread nD τ) (ms1_1 t) fullShare ((vdat1 V c).after 1 t)
    ∗ owns (c : Thread nD τ) (ms1_2 t) fullShare ((vdat1 V c).after 2 t)
    ∗ owns (c : Thread nD τ) (ms1_3 t) fullShare ((vdat1 V c).after 3 t)
    ∗ owns (c : Thread nD τ) (ms1_4 t) fullShare ((vdat1 V c).after 4 t))

/-- The body at any point leaves the blocks `vdat1` names. -/
theorem vsound1 (c : Dev nD) (t : Fin cfg1.N) :
    vpre1 V c t ⊢ wp frame (wpE (defs₀ (F := F)) Variants.none c none) Set.univ (bodyAt1 t) (fun _ => vpost1 V c t) := by
  unfold vpre1 vpost1 bodyAt1
  simp only [vbefore1_0, vbefore1_1, vbefore1_2, vbefore1_3]
  rw [show (vdat1 V c).Φ t.succ = (vdat1 V c).Φ t.castSucc from rfl,
    show (vdat1 V c).owesAt () t.succ = (vdat1 V c).owesAt () t.castSucc from rfl,
    vafter1_0, vafter1_1, vafter1_2, vafter1_3, vafter1_4]
  rw [show (vdat1 V c).Φ t.castSucc = Pipeline.ΦA spec1 c from rfl, PhiA1_eq, body1_eq]
  exact conv2_wp (F := F) _ _ _ _ _ _ _ _ _ _ _ _ _ _ _ _ _ _

/-- The body's obligation at every point. -/
theorem vbody1 (c : Dev nD) : BodyObligation (vdat1 (F := F) V c) (defs₀ (F := F)) Variants.none () Set.univ := fun t => by
  rw [bigSep_W1, bigSep_W1, defs₀_row1]
  exact triple_restated (vsound1 V c t) rfl .rfl fun _ => .rfl

end Cert.KernelIdeal.Own
-- ==== Proof.Call2.lean ====
module

public import proofs.«01_k».proof.Proof.Gen.KernelIdeal.Frame.Region2
public import proofs.«01_k».proof.Proof.BodyEqIdeal
public import proofs.«01_k».proof.Proof.Wp

/-!
# Call 2: an adaptive convolution

The contents of the windows of call 2 after each grid point, in closed form, and the body's obligation against them.
-/

@[expose] public section

set_option maxRecDepth 16384

noncomputable section

namespace Cert.KernelIdeal.Own

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the contents of the buffers when the call is entered
variable (V : (c : Dev nD) → (b : Ref sig .tc) → Buf (Elt F) ((c : Thread nD τ).loc b))

/-- The slabs of the point's tile with its halos. -/
def slabs2 (c : Dev nD) (t : Fin cfg2.N) : ℕ → FVec F Sv .f32 :=
  slabVal (BitVec.ofNat 32 (grid2.coords t 0).val) (iblk2 V c 0 t) (iblk2 V c 1 t) (iblk2 V c 2 t)

/-- The planes the point computes. -/
def blockVal2 (c : Dev nD) (t : Fin cfg2.N) : Fin 8 → Fin 8 → FVec F Sp .f32 :=
  adaptVal (slabs2 V c t) (iblk2 V c 3 t)

/-- What call 2 leaves at each point: the inputs' buffers at their blocks, the outputs' at the block computed. -/
def vdat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outAll (blockVal2 V c t)
    | ⟨5, _⟩ => loAll (blockVal2 V c t)
    | ⟨6, _⟩ => hiAll (blockVal2 V c t)
  Φ _ := Pipeline.ΦA spec2 c
  q _ := fullShare
  owed _ := 0

theorem vA2 (c : Dev nD) (w : Fin cfg2.W) : (vdat2 V c).A w = V c (Pipeline.arrRef spec2 w) := by
  dsimp only [vdat2]
theorem vafter2_0 (c : Dev nD) (t : Fin cfg2.N) : (vdat2 V c).after 0 t = iblk2 V c 0 t := by dsimp only [vdat2]
theorem vafter2_1 (c : Dev nD) (t : Fin cfg2.N) : (vdat2 V c).after 1 t = iblk2 V c 1 t := by dsimp only [vdat2]
theorem vafter2_2 (c : Dev nD) (t : Fin cfg2.N) : (vdat2 V c).after 2 t = iblk2 V c 2 t := by dsimp only [vdat2]
theorem vafter2_3 (c : Dev nD) (t : Fin cfg2.N) : (vdat2 V c).after 3 t = iblk2 V c 3 t := by dsimp only [vdat2]
theorem vafter2_4 (c : Dev nD) (t : Fin cfg2.N) : (vdat2 V c).after 4 t = outAll (blockVal2 V c t) := by dsimp only [vdat2]
theorem vafter2_5 (c : Dev nD) (t : Fin cfg2.N) : (vdat2 V c).after 5 t = loAll (blockVal2 V c t) := by dsimp only [vdat2]
theorem vafter2_6 (c : Dev nD) (t : Fin cfg2.N) : (vdat2 V c).after 6 t = hiAll (blockVal2 V c t) := by dsimp only [vdat2]
theorem vbefore2_0 (c : Dev nD) (t : Fin cfg2.N) (d) : (vdat2 V c).before 0 t d = iblk2 V c 0 t :=
  before2_0_of V (vdat2 V c) (vA2 V c 0) (vafter2_0 V c) t d
theorem vbefore2_1 (c : Dev nD) (t : Fin cfg2.N) (d) : (vdat2 V c).before 1 t d = iblk2 V c 1 t :=
  before2_1_of V (vdat2 V c) (vA2 V c 1) (vafter2_1 V c) t d
theorem vbefore2_2 (c : Dev nD) (t : Fin cfg2.N) (d) : (vdat2 V c).before 2 t d = iblk2 V c 2 t :=
  before2_2_of V (vdat2 V c) (vA2 V c 2) (vafter2_2 V c) t d
theorem vbefore2_3 (c : Dev nD) (t : Fin cfg2.N) (d) : (vdat2 V c).before 3 t d = iblk2 V c 3 t :=
  before2_3_of V (vdat2 V c) (vA2 V c 3) (vafter2_3 V c) t d

/-- What the body is called with at point `t`. -/
def vpre2 (c : Dev nD) (t : Fin cfg2.N) : sProp 𝕄 :=
  iprop((vdat2 V c).Φ t.castSucc ∗ (vdat2 V c).owesAt () t.castSucc
    ∗ (∃ d, owns (c : Thread nD τ) (ms2_0 t) fullShare ((vdat2 V c).before 0 t d))
    ∗ (∃ d, owns (c : Thread nD τ) (ms2_1 t) fullShare ((vdat2 V c).before 1 t d))
    ∗ (∃ d, owns (c : Thread nD τ) (ms2_2 t) fullShare ((vdat2 V c).before 2 t d))
    ∗ (∃ d, owns (c : Thread nD τ) (ms2_3 t) fullShare ((vdat2 V c).before 3 t d))
    ∗ (∃ d, owns (c : Thread nD τ) (ms2_4 t) fullShare ((vdat2 V c).before 4 t d))
    ∗ (∃ d, owns (c : Thread nD τ) (ms2_5 t) fullShare ((vdat2 V c).before 5 t d))
    ∗ (∃ d, owns (c : Thread nD τ) (ms2_6 t) fullShare ((vdat2 V c).before 6 t d)))

/-- What the body returns at point `t`. -/
def vpost2 (c : Dev nD) (t : Fin cfg2.N) : sProp 𝕄 :=
  iprop((vdat2 V c).Φ t.succ ∗ (vdat2 V c).owesAt () t.succ
    ∗ owns (c : Thread nD τ) (ms2_0 t) fullShare ((vdat2 V c).after 0 t)
    ∗ owns (c : Thread nD τ) (ms2_1 t) fullShare ((vdat2 V c).after 1 t)
    ∗ owns (c : Thread nD τ) (ms2_2 t) fullShare ((vdat2 V c).after 2 t)
    ∗ owns (c : Thread nD τ) (ms2_3 t) fullShare ((vdat2 V c).after 3 t)
    ∗ owns (c : Thread nD τ) (ms2_4 t) fullShare ((vdat2 V c).after 4 t)
    ∗ owns (c : Thread nD τ) (ms2_5 t) fullShare ((vdat2 V c).after 5 t)
    ∗ owns (c : Thread nD τ) (ms2_6 t) fullShare ((vdat2 V c).after 6 t))

/-- The body at any point leaves the blocks `vdat2` names. -/
theorem vsound2 (c : Dev nD) (t : Fin cfg2.N) :
    vpre2 V c t ⊢ wp frame (wpE (defs₀ (F := F)) Variants.none c none) Set.univ (bodyAt2 t) (fun _ => vpost2 V c t) := by
  unfold vpre2 vpost2 bodyAt2
  simp only [vbefore2_0, vbefore2_1, vbefore2_2, vbefore2_3]
  rw [show (vdat2 V c).Φ t.succ = (vdat2 V c).Φ t.castSucc from rfl,
    show (vdat2 V c).owesAt () t.succ = (vdat2 V c).owesAt () t.castSucc from rfl,
    vafter2_0, vafter2_1, vafter2_2, vafter2_3, vafter2_4, vafter2_5, vafter2_6]
  rw [show (vdat2 V c).Φ t.castSucc = Pipeline.ΦA spec2 c from rfl, PhiA2_eq, body2_eq]
  unfold blockVal2 slabs2
  have h := adapt_wp (F := F) (defs := defs₀) (dev := c) (E := Set.univ) (D0 := (cfg2.win 0).block.Idx → Elt F (cfg2.win 0).elt)
    (D1 := (cfg2.win 1).block.Idx → Elt F (cfg2.win 1).elt) (D2 := (cfg2.win 2).block.Idx → Elt F (cfg2.win 2).elt)
    (D3 := (cfg2.win 3).block.Idx → Elt F (cfg2.win 3).elt) (BitVec.ofNat 32 (grid2.coords t 0).val) (ms2_0 t) (ms2_1 t)
    (ms2_2 t) (iblk2 V c 0 t) (iblk2 V c 1 t) (iblk2 V c 2 t) (Pipeline.scopedRestBut spec2 c [cc2_scratch0])
    iprop(∃ r, prngReg c r) ((vdat2 V c).owesAt () t.castSucc) (ms2_3 t) scM2_0 (iblk2 V c 3 t) (ms2_4 t) (ms2_5 t) (ms2_6 t)
    ((vdat2 V c).before 4 t) ((vdat2 V c).before 5 t) ((vdat2 V c).before 6 t)
  refine BIBase.Entails.trans ?_ (BIBase.Entails.trans h ?_)
  · exact .rfl
  have e : adaptBody (ms2_3 t) scM2_0 (BitVec.ofNat 32 (grid2.coords t 0).val) (ms2_0 t) (ms2_1 t) (ms2_2 t) (ms2_4 t)
      (ms2_5 t) (ms2_6 t) = (adaptBody (stage2_3 (cfg2.slots t 3)) (Memref.whole cc2_scratch0)
        (BitVec.ofNat 32 (grid2.coords t 0).val) (stage2_0 (cfg2.slots t 0)) (stage2_1 (cfg2.slots t 1))
        (stage2_2 (cfg2.slots t 2)) (stage2_4 (cfg2.slots t 4)) (stage2_5 (cfg2.slots t 5))
        (stage2_6 (cfg2.slots t 6)) : Pr nD τ sig Λ₀ F PUnit) := rfl
  rw [e]

/-- The body's obligation at every point. -/
theorem vbody2 (c : Dev nD) : BodyObligation (vdat2 (F := F) V c) (defs₀ (F := F)) Variants.none () Set.univ := fun t => by
  rw [bigSep_W2, bigSep_W2, defs₀_row2]
  exact triple_restated (vsound2 V c t) rfl .rfl fun _ => .rfl

end Cert.KernelIdeal.Own
-- ==== Proof.Call3.lean ====
module

public import proofs.«01_k».proof.Proof.Gen.KernelIdeal.Frame.Region3
public import proofs.«01_k».proof.Proof.BodyEqIdeal
public import proofs.«01_k».proof.Proof.Wp

/-!
# Call 3: an adaptive convolution

The contents of the windows of call 3 after each grid point, in closed form, and the body's obligation against them.
-/

@[expose] public section

set_option maxRecDepth 16384

noncomputable section

namespace Cert.KernelIdeal.Own

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the contents of the buffers when the call is entered
variable (V : (c : Dev nD) → (b : Ref sig .tc) → Buf (Elt F) ((c : Thread nD τ).loc b))

/-- The slabs of the point's tile with its halos. -/
def slabs3 (c : Dev nD) (t : Fin cfg3.N) : ℕ → FVec F Sv .f32 :=
  slabVal (BitVec.ofNat 32 (grid3.coords t 0).val) (iblk3 V c 0 t) (iblk3 V c 1 t) (iblk3 V c 2 t)

/-- The planes the point computes. -/
def blockVal3 (c : Dev nD) (t : Fin cfg3.N) : Fin 8 → Fin 8 → FVec F Sp .f32 :=
  adaptVal (slabs3 V c t) (iblk3 V c 3 t)

/-- What call 3 leaves at each point: the inputs' buffers at their blocks, the outputs' at the block computed. -/
def vdat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => outAll (blockVal3 V c t)
    | ⟨5, _⟩ => loAll (blockVal3 V c t)
    | ⟨6, _⟩ => hiAll (blockVal3 V c t)
  Φ _ := Pipeline.ΦA spec3 c
  q _ := fullShare
  owed _ := 0

theorem vA3 (c : Dev nD) (w : Fin cfg3.W) : (vdat3 V c).A w = V c (Pipeline.arrRef spec3 w) := by
  dsimp only [vdat3]
theorem vafter3_0 (c : Dev nD) (t : Fin cfg3.N) : (vdat3 V c).after 0 t = iblk3 V c 0 t := by dsimp only [vdat3]
theorem vafter3_1 (c : Dev nD) (t : Fin cfg3.N) : (vdat3 V c).after 1 t = iblk3 V c 1 t := by dsimp only [vdat3]
theorem vafter3_2 (c : Dev nD) (t : Fin cfg3.N) : (vdat3 V c).after 2 t = iblk3 V c 2 t := by dsimp only [vdat3]
theorem vafter3_3 (c : Dev nD) (t : Fin cfg3.N) : (vdat3 V c).after 3 t = iblk3 V c 3 t := by dsimp only [vdat3]
theorem vafter3_4 (c : Dev nD) (t : Fin cfg3.N) : (vdat3 V c).after 4 t = outAll (blockVal3 V c t) := by dsimp only [vdat3]
theorem vafter3_5 (c : Dev nD) (t : Fin cfg3.N) : (vdat3 V c).after 5 t = loAll (blockVal3 V c t) := by dsimp only [vdat3]
theorem vafter3_6 (c : Dev nD) (t : Fin cfg3.N) : (vdat3 V c).after 6 t = hiAll (blockVal3 V c t) := by dsimp only [vdat3]
theorem vbefore3_0 (c : Dev nD) (t : Fin cfg3.N) (d) : (vdat3 V c).before 0 t d = iblk3 V c 0 t :=
  before3_0_of V (vdat3 V c) (vA3 V c 0) (vafter3_0 V c) t d
theorem vbefore3_1 (c : Dev nD) (t : Fin cfg3.N) (d) : (vdat3 V c).before 1 t d = iblk3 V c 1 t :=
  before3_1_of V (vdat3 V c) (vA3 V c 1) (vafter3_1 V c) t d
theorem vbefore3_2 (c : Dev nD) (t : Fin cfg3.N) (d) : (vdat3 V c).before 2 t d = iblk3 V c 2 t :=
  before3_2_of V (vdat3 V c) (vA3 V c 2) (vafter3_2 V c) t d
theorem vbefore3_3 (c : Dev nD) (t : Fin cfg3.N) (d) : (vdat3 V c).before 3 t d = iblk3 V c 3 t :=
  before3_3_of V (vdat3 V c) (vA3 V c 3) (vafter3_3 V c) t d

/-- What the body is called with at point `t`. -/
def vpre3 (c : Dev nD) (t : Fin cfg3.N) : sProp 𝕄 :=
  iprop((vdat3 V c).Φ t.castSucc ∗ (vdat3 V c).owesAt () t.castSucc
    ∗ (∃ d, owns (c : Thread nD τ) (ms3_0 t) fullShare ((vdat3 V c).before 0 t d))
    ∗ (∃ d, owns (c : Thread nD τ) (ms3_1 t) fullShare ((vdat3 V c).before 1 t d))
    ∗ (∃ d, owns (c : Thread nD τ) (ms3_2 t) fullShare ((vdat3 V c).before 2 t d))
    ∗ (∃ d, owns (c : Thread nD τ) (ms3_3 t) fullShare ((vdat3 V c).before 3 t d))
    ∗ (∃ d, owns (c : Thread nD τ) (ms3_4 t) fullShare ((vdat3 V c).before 4 t d))
    ∗ (∃ d, owns (c : Thread nD τ) (ms3_5 t) fullShare ((vdat3 V c).before 5 t d))
    ∗ (∃ d, owns (c : Thread nD τ) (ms3_6 t) fullShare ((vdat3 V c).before 6 t d)))

/-- What the body returns at point `t`. -/
def vpost3 (c : Dev nD) (t : Fin cfg3.N) : sProp 𝕄 :=
  iprop((vdat3 V c).Φ t.succ ∗ (vdat3 V c).owesAt () t.succ
    ∗ owns (c : Thread nD τ) (ms3_0 t) fullShare ((vdat3 V c).after 0 t)
    ∗ owns (c : Thread nD τ) (ms3_1 t) fullShare ((vdat3 V c).after 1 t)
    ∗ owns (c : Thread nD τ) (ms3_2 t) fullShare ((vdat3 V c).after 2 t)
    ∗ owns (c : Thread nD τ) (ms3_3 t) fullShare ((vdat3 V c).after 3 t)
    ∗ owns (c : Thread nD τ) (ms3_4 t) fullShare ((vdat3 V c).after 4 t)
    ∗ owns (c : Thread nD τ) (ms3_5 t) fullShare ((vdat3 V c).after 5 t)
    ∗ owns (c : Thread nD τ) (ms3_6 t) fullShare ((vdat3 V c).after 6 t))

/-- The body at any point leaves the blocks `vdat3` names. -/
theorem vsound3 (c : Dev nD) (t : Fin cfg3.N) :
    vpre3 V c t ⊢ wp frame (wpE (defs₀ (F := F)) Variants.none c none) Set.univ (bodyAt3 t) (fun _ => vpost3 V c t) := by
  unfold vpre3 vpost3 bodyAt3
  simp only [vbefore3_0, vbefore3_1, vbefore3_2, vbefore3_3]
  rw [show (vdat3 V c).Φ t.succ = (vdat3 V c).Φ t.castSucc from rfl,
    show (vdat3 V c).owesAt () t.succ = (vdat3 V c).owesAt () t.castSucc from rfl,
    vafter3_0, vafter3_1, vafter3_2, vafter3_3, vafter3_4, vafter3_5, vafter3_6]
  rw [show (vdat3 V c).Φ t.castSucc = Pipeline.ΦA spec3 c from rfl, PhiA3_eq, body3_eq]
  unfold blockVal3 slabs3
  have h := adapt_wp (F := F) (defs := defs₀) (dev := c) (E := Set.univ) (D0 := (cfg3.win 0).block.Idx → Elt F (cfg3.win 0).elt)
    (D1 := (cfg3.win 1).block.Idx → Elt F (cfg3.win 1).elt) (D2 := (cfg3.win 2).block.Idx → Elt F (cfg3.win 2).elt)
    (D3 := (cfg3.win 3).block.Idx → Elt F (cfg3.win 3).elt) (BitVec.ofNat 32 (grid3.coords t 0).val) (ms3_0 t) (ms3_1 t)
    (ms3_2 t) (iblk3 V c 0 t) (iblk3 V c 1 t) (iblk3 V c 2 t) (Pipeline.scopedRestBut spec3 c [cc3_scratch0])
    iprop(∃ r, prngReg c r) ((vdat3 V c).owesAt () t.castSucc) (ms3_3 t) scM3_0 (iblk3 V c 3 t) (ms3_4 t) (ms3_5 t) (ms3_6 t)
    ((vdat3 V c).before 4 t) ((vdat3 V c).before 5 t) ((vdat3 V c).before 6 t)
  refine BIBase.Entails.trans ?_ (BIBase.Entails.trans h ?_)
  · exact .rfl
  have e : adaptBody (ms3_3 t) scM3_0 (BitVec.ofNat 32 (grid3.coords t 0).val) (ms3_0 t) (ms3_1 t) (ms3_2 t) (ms3_4 t)
      (ms3_5 t) (ms3_6 t) = (adaptBody (stage3_3 (cfg3.slots t 3)) (Memref.whole cc3_scratch0)
        (BitVec.ofNat 32 (grid3.coords t 0).val) (stage3_0 (cfg3.slots t 0)) (stage3_1 (cfg3.slots t 1))
        (stage3_2 (cfg3.slots t 2)) (stage3_4 (cfg3.slots t 4)) (stage3_5 (cfg3.slots t 5))
        (stage3_6 (cfg3.slots t 6)) : Pr nD τ sig Λ₀ F PUnit) := rfl
  rw [e]

/-- The body's obligation at every point. -/
theorem vbody3 (c : Dev nD) : BodyObligation (vdat3 (F := F) V c) (defs₀ (F := F)) Variants.none () Set.univ := fun t => by
  rw [bigSep_W3, bigSep_W3, defs₀_row3]
  exact triple_restated (vsound3 V c t) rfl .rfl fun _ => .rfl

end Cert.KernelIdeal.Own
-- ==== Proof.Call4.lean ====
module

public import proofs.«01_k».proof.Proof.Gen.KernelIdeal.Frame.Region4
public import proofs.«01_k».proof.Proof.BodyEqIdeal
public import proofs.«01_k».proof.Proof.Wp

/-!
# Call 4: an adaptive convolution

The contents of the windows of call 4 after each grid point, in closed form, and the body's obligation against them.
-/

@[expose] public section

set_option maxRecDepth 16384

noncomputable section

namespace Cert.KernelIdeal.Own

open Cert.KernelIdeal Cert.KernelIdeal.Gen Cert.Own
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the contents of the buffers when the call is entered
variable (V : (c : Dev nD) → (b : Ref sig .tc) → Buf (Elt F) ((c : Thread nD τ).loc b))

/-- The slabs of the point's tile with its halos. -/
def slabs4 (c : Dev nD) (t : Fin cfg4.N) : ℕ → FVec F Sv .f32 :=
  slabVal (BitVec.ofNat 32 (grid4.coords t 0).val) (iblk4 V c 0 t) (iblk4 V c 1 t) (iblk4 V c 2 t)

/-- The planes the point computes. -/
def blockVal4 (c : Dev nD) (t : Fin cfg4.N) : Fin 8 → Fin 8 → FVec F Sp .f32 :=
  adaptVal (slabs4 V c t) (iblk4 V c 3 t)

/-- What call 4 leaves at each point: the inputs' buffers at their blocks, the outputs' at the block computed. -/
def vdat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => outAll (blockVal4 V c t)
    | ⟨5, _⟩ => loAll (blockVal4 V c t)
    | ⟨6, _⟩ => hiAll (blockVal4 V c t)
  Φ _ := Pipeline.ΦA spec4 c
  q _ := fullShare
  owed _ := 0

theorem vA4 (c : Dev nD) (w : Fin cfg4.W) : (vdat4 V c).A w = V c (Pipeline.arrRef spec4 w) := by
  dsimp only [vdat4]
theorem vafter4_0 (c : Dev nD) (t : Fin cfg4.N) : (vdat4 V c).after 0 t = iblk4 V c 0 t := by dsimp only [vdat4]
theorem vafter4_1 (c : Dev nD) (t : Fin cfg4.N) : (vdat4 V c).after 1 t = iblk4 V c 1 t := by dsimp only [vdat4]
theorem vafter4_2 (c : Dev nD) (t : Fin cfg4.N) : (vdat4 V c).after 2 t = iblk4 V c 2 t := by dsimp only [vdat4]
theorem vafter4_3 (c : Dev nD) (t : Fin cfg4.N) : (vdat4 V c).after 3 t = iblk4 V c 3 t := by dsimp only [vdat4]
theorem vafter4_4 (c : Dev nD) (t : Fin cfg4.N) : (vdat4 V c).after 4 t = outAll (blockVal4 V c t) := by dsimp only [vdat4]
theorem vafter4_5 (c : Dev nD) (t : Fin cfg4.N) : (vdat4 V c).after 5 t = loAll (blockVal4 V c t) := by dsimp only [vdat4]
theorem vafter4_6 (c : Dev nD) (t : Fin cfg4.N) : (vdat4 V c).after 6 t = hiAll (blockVal4 V c t) := by dsimp only [vdat4]
theorem vbefore4_0 (c : Dev nD) (t : Fin cfg4.N) (d) : (vdat4 V c).before 0 t d = iblk4 V c 0 t :=
  before4_0_of V (vdat4 V c) (vA4 V c 0) (vafter4_0 V c) t d
theorem vbefore4_1 (c : Dev nD) (t : Fin cfg4.N) (d) : (vdat4 V c).before 1 t d = iblk4 V c 1 t :=
  before4_1_of V (vdat4 V c) (vA4 V c 1) (vafter4_1 V c) t d
theorem vbefore4_2 (c : Dev nD) (t : Fin cfg4.N) (d) : (vdat4 V c).before 2 t d = iblk4 V c 2 t :=
  before4_2_of V (vdat4 V c) (vA4 V c 2) (vafter4_2 V c) t d
theorem vbefore4_3 (c : Dev nD) (t : Fin cfg4.N) (d) : (vdat4 V c).before 3 t d = iblk4 V c 3 t :=
  before4_3_of V (vdat4 V c) (vA4 V c 3) (vafter4_3 V c) t d

/-- What the body is called with at point `t`. -/
def vpre4 (c : Dev nD) (t : Fin cfg4.N) : sProp 𝕄 :=
  iprop((vdat4 V c).Φ t.castSucc ∗ (vdat4 V c).owesAt () t.castSucc
    ∗ (∃ d, owns (c : Thread nD τ) (ms4_0 t) fullShare ((vdat4 V c).before 0 t d))
    ∗ (∃ d, owns (c : Thread nD τ) (ms4_1 t) fullShare ((vdat4 V c).before 1 t d))
    ∗ (∃ d, owns (c : Thread nD τ) (ms4_2 t) fullShare ((vdat4 V c).before 2 t d))
    ∗ (∃ d, owns (c : Thread nD τ) (ms4_3 t) fullShare ((vdat4 V c).before 3 t d))
    ∗ (∃ d, owns (c : Thread nD τ) (ms4_4 t) fullShare ((vdat4 V c).before 4 t d))
    ∗ (∃ d, owns (c : Thread nD τ) (ms4_5 t) fullShare ((vdat4 V c).before 5 t d))
    ∗ (∃ d, owns (c : Thread nD τ) (ms4_6 t) fullShare ((vdat4 V c).before 6 t d)))

/-- What the body returns at point `t`. -/
def vpost4 (c : Dev nD) (t : Fin cfg4.N) : sProp 𝕄 :=
  iprop((vdat4 V c).Φ t.succ ∗ (vdat4 V c).owesAt () t.succ
    ∗ owns (c : Thread nD τ) (ms4_0 t) fullShare ((vdat4 V c).after 0 t)
    ∗ owns (c : Thread nD τ) (ms4_1 t) fullShare ((vdat4 V c).after 1 t)
    ∗ owns (c : Thread nD τ) (ms4_2 t) fullShare ((vdat4 V c).after 2 t)
    ∗ owns (c : Thread nD τ) (ms4_3 t) fullShare ((vdat4 V c).after 3 t)
    ∗ owns (c : Thread nD τ) (ms4_4 t) fullShare ((vdat4 V c).after 4 t)
    ∗ owns (c : Thread nD τ) (ms4_5 t) fullShare ((vdat4 V c).after 5 t)
    ∗ owns (c : Thread nD τ) (ms4_6 t) fullShare ((vdat4 V c).after 6 t))

/-- The body at any point leaves the blocks `vdat4` names. -/
theorem vsound4 (c : Dev nD) (t : Fin cfg4.N) :
    vpre4 V c t ⊢ wp frame (wpE (defs₀ (F := F)) Variants.none c none) Set.univ (bodyAt4 t) (fun _ => vpost4 V c t) := by
  unfold vpre4 vpost4 bodyAt4
  simp only [vbefore4_0, vbefore4_1, vbefore4_2, vbefore4_3]
  rw [show (vdat4 V c).Φ t.succ = (vdat4 V c).Φ t.castSucc from rfl,
    show (vdat4 V c).owesAt () t.succ = (vdat4 V c).owesAt () t.castSucc from rfl,
    vafter4_0, vafter4_1, vafter4_2, vafter4_3, vafter4_4, vafter4_5, vafter4_6]
  rw [show (vdat4 V c).Φ t.castSucc = Pipeline.ΦA spec4 c from rfl, PhiA4_eq, body4_eq]
  unfold blockVal4 slabs4
  have h := adapt_wp (F := F) (defs := defs₀) (dev := c) (E := Set.univ) (D0 := (cfg4.win 0).block.Idx → Elt F (cfg4.win 0).elt)
    (D1 := (cfg4.win 1).block.Idx → Elt F (cfg4.win 1).elt) (D2 := (cfg4.win 2).block.Idx → Elt F (cfg4.win 2).elt)
    (D3 := (cfg4.win 3).block.Idx → Elt F (cfg4.win 3).elt) (BitVec.ofNat 32 (grid4.coords t 0).val) (ms4_0 t) (ms4_1 t)
    (ms4_2 t) (iblk4 V c 0 t) (iblk4 V c 1 t) (iblk4 V c 2 t) (Pipeline.scopedRestBut spec4 c [cc4_scratch0])
    iprop(∃ r, prngReg c r) ((vdat4 V c).owesAt () t.castSucc) (ms4_3 t) scM4_0 (iblk4 V c 3 t) (ms4_4 t) (ms4_5 t) (ms4_6 t)
    ((vdat4 V c).before 4 t) ((vdat4 V c).before 5 t) ((vdat4 V c).before 6 t)
  refine BIBase.Entails.trans ?_ (BIBase.Entails.trans h ?_)
  · exact .rfl
  have e : adaptBody (ms4_3 t) scM4_0 (BitVec.ofNat 32 (grid4.coords t 0).val) (ms4_0 t) (ms4_1 t) (ms4_2 t) (ms4_4 t)
      (ms4_5 t) (ms4_6 t) = (adaptBody (stage4_3 (cfg4.slots t 3)) (Memref.whole cc4_scratch0)
        (BitVec.ofNat 32 (grid4.coords t 0).val) (stage4_0 (cfg4.slots t 0)) (stage4_1 (cfg4.slots t 1))
        (stage4_2 (cfg4.slots t 2)) (stage4_4 (cfg4.slots t 4)) (stage4_5 (cfg4.slots t 5))
        (stage4_6 (cfg4.slots t 6)) : Pr nD τ sig Λ₀ F PUnit) := rfl
  rw [e]

/-- The body's obligation at every point. -/
theorem vbody4 (c : Dev nD) : BodyObligation (vdat4 (F := F) V c) (defs₀ (F := F)) Variants.none () Set.univ := fun t => by
  rw [bigSep_W4, bigSep_W4, defs₀_row4]
  exact triple_restated (vsound4 V c t) rfl .rfl fun _ => .rfl

end Cert.KernelIdeal.Own
-- ==== Proof.Chain.lean ====
module

public import proofs.«01_k».proof.Proof.Call0
public import proofs.«01_k».proof.Proof.Call1
public import proofs.«01_k».proof.Proof.Call2
public import proofs.«01_k».proof.Proof.Call3
public import proofs.«01_k».proof.Proof.Call4
public import proofs.«01_k».proof.Proof.Gen.KernelIdeal.Frame.Hosts0

/-!
# The buffers' contents between the calls
-/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After the first host operations. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- After call 0: its arrays at what its write-backs leave, every other buffer as before. -/
def W2 (c : Dev nD) : Valuation τ sig (Elt F) :=
  Pipeline.withArrays spec0 c (W1 m ρ c) fun w => (vdat0 (V1 m ρ) c).arrAt w cfg0.N
theorem W2_arr (c : Dev nD) (w : Fin cfg0.W) :
    W2 m ρ c (Proc.devRef .tc (Pipeline.arrRef spec0 w)) = (vdat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((vdat0 (V1 m ρ) c).arrAt_in w (h w rfl) _).trans (vA0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (vdat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After call 1: its arrays at what its write-backs leave, every other buffer as before. -/
def W3 (c : Dev nD) : Valuation τ sig (Elt F) :=
  Pipeline.withArrays spec1 c (W2 m ρ c) fun w => (vdat1 (V2 m ρ) c).arrAt w cfg1.N
theorem W3_arr (c : Dev nD) (w : Fin cfg1.W) :
    W3 m ρ c (Proc.devRef .tc (Pipeline.arrRef spec1 w)) = (vdat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((vdat1 (V2 m ρ) c).arrAt_in w (h w rfl) _).trans (vA1 (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (vdat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After call 2: its arrays at what its write-backs leave, every other buffer as before. -/
def W4 (c : Dev nD) : Valuation τ sig (Elt F) :=
  Pipeline.withArrays spec2 c (W3 m ρ c) fun w => (vdat2 (V3 m ρ) c).arrAt w cfg2.N
theorem W4_arr (c : Dev nD) (w : Fin cfg2.W) :
    W4 m ρ c (Proc.devRef .tc (Pipeline.arrRef spec2 w)) = (vdat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((vdat2 (V3 m ρ) c).arrAt_in w (h w rfl) _).trans (vA2 (V3 m ρ) c w))
  · exact W4_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
abbrev V4 : (c : Dev nD) → (b : Ref sig .tc) → Buf (Elt F) ((c : Thread nD τ).loc b) := fun c b => W4 m ρ c b
theorem hF2 (c : Dev nD) (w : Fin cfg2.W) : (vdat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After call 3: its arrays at what its write-backs leave, every other buffer as before. -/
def W5 (c : Dev nD) : Valuation τ sig (Elt F) :=
  Pipeline.withArrays spec3 c (W4 m ρ c) fun w => (vdat3 (V4 m ρ) c).arrAt w cfg3.N
theorem W5_arr (c : Dev nD) (w : Fin cfg3.W) :
    W5 m ρ c (Proc.devRef .tc (Pipeline.arrRef spec3 w)) = (vdat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((vdat3 (V4 m ρ) c).arrAt_in w (h w rfl) _).trans (vA3 (V4 m ρ) c w))
  · exact W5_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn3 a ha)).trans (W4_args m ρ c a ha)
abbrev V5 : (c : Dev nD) → (b : Ref sig .tc) → Buf (Elt F) ((c : Thread nD τ).loc b) := fun c b => W5 m ρ c b
theorem hF3 (c : Dev nD) (w : Fin cfg3.W) : (vdat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-- After call 4: its arrays at what its write-backs leave, every other buffer as before. -/
def W6 (c : Dev nD) : Valuation τ sig (Elt F) :=
  Pipeline.withArrays spec4 c (W5 m ρ c) fun w => (vdat4 (V5 m ρ) c).arrAt w cfg4.N
theorem W6_arr (c : Dev nD) (w : Fin cfg4.W) :
    W6 m ρ c (Proc.devRef .tc (Pipeline.arrRef spec4 w)) = (vdat4 (V5 m ρ) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m ρ c (Proc.devRef .tc b) = W5 m ρ c (Proc.devRef .tc b) := by
  unfold W6; exact Pipeline.withArrays_of_ne spec4 c _ _ b hb
theorem W6_of (c : Dev nD) (r : Ref sig .tc) (h : ∀ w : Fin cfg4.W, Pipeline.arrRef spec4 w = r → (cfg4.win w).isOut = false) :
    W6 m ρ c (Proc.devRef .tc r) = W5 m ρ c (Proc.devRef .tc r) := by
  by_cases hw : ∃ w : Fin cfg4.W, Pipeline.arrRef spec4 w = r
  · obtain ⟨w, rfl⟩ := hw
    exact (W6_arr m ρ c w).trans (((vdat4 (V5 m ρ) c).arrAt_in w (h w rfl) _).trans (vA4 (V5 m ρ) c w))
  · exact W6_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn4 a ha)).trans (W5_args m ρ c a ha)
abbrev V6 : (c : Dev nD) → (b : Ref sig .tc) → Buf (Elt F) ((c : Thread nD τ).loc b) := fun c b => W6 m ρ c b
theorem hF4 (c : Dev nD) (w : Fin cfg4.W) : (vdat4 (V5 m ρ) c).arrAt w cfg4.N = V6 m ρ c (Pipeline.arrRef spec4 w) :=
  (W6_arr m ρ c w).symm
theorem hrest4 (c : Dev nD) : ∀ b, b ∉ Finset.univ.image (Pipeline.arrRef spec4) → V6 m ρ c b = V5 m ρ c b :=
  fun b hb => W6_of_ne m ρ c b fun w e => hb (Finset.mem_image.mpr ⟨w, Finset.mem_univ _, e⟩)

/-- After the last host operations. -/
abbrev W7 : Dev nD → Valuation τ sig (Elt F) := fun c => StableHlo.after hostOps5 (W6 m ρ c)
theorem W7_of (c : Dev nD) (r : Ref sig .tc) (h : r ∉ hostOps5_W) : W7 m ρ c (Proc.devRef .tc r) = W6 m ρ c (Proc.devRef .tc r) :=
  StableHlo.after_of_writes_sub hostOps5 _ hostOps5_writes h
theorem W7_args (c : Dev nD) : ∀ a ∈ argRefs, W7 m ρ c (Proc.devRef .tc a) = m ((c : Thread nD τ).loc a) :=
  fun a ha => (W7_of m ρ c a (hostOps5_args a ha)).trans (W6_args m ρ c a ha)

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)

end Cert.KernelIdeal.Own
-- ==== Proof.Whole.lean ====
module

public import proofs.«01_k».proof.Proof.Chain

/-!
# The whole launch, with its final contents
-/

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => vdat0 (V1 m ρ) c
  | ⟨1, _⟩ => fun c => vdat1 (V2 m ρ) c
  | ⟨2, _⟩ => fun c => vdat2 (V3 m ρ) c
  | ⟨3, _⟩ => fun c => vdat3 (V4 m ρ) c
  | ⟨4, _⟩ => fun c => vdat4 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
/-- Call 0 carries the buffers from one boundary's contents to the next. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (vbody0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (vA0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 carries the buffers from one boundary's contents to the next. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (vbody1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (vA1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 carries the buffers from one boundary's contents to the next. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (vbody2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (vA2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 carries the buffers from one boundary's contents to the next. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (vbody3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (vA3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 carries the buffers from one boundary's contents to the next. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (vbody4 (V5 m ρ) c).loose
  hwaits := Pipeline.hwaits_of_owed_zero _ _ _ _ L lv 4 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec4 c (V5 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V5 m ρ c) (vA4 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V5 m ρ c) (V6 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ),
    .region (reg4 m ρ),
    .host (hseg hostOps5 hostOps5_sub hostOps5_fresh (W6 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole launch ends with the result at the last boundary's contents, the arguments unchanged and every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v15) = W7 m ρ c main_v15)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨(fun c =>
      ⟨(h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       h c _ (mem_uc main_v15 (by decide))⟩), funext fun g => hz g (.inr (no_unscoped g.2))⟩)

end Cert.KernelIdeal.Own
-- ==== Proof.Spec.lean ====
module

public import proofs.«01_k».proof.Proof.State

/-!
# The mathematics

The problem's functions on volumes over the extended reals: a volume read with a border of zeros, the convolution, the
hidden layer, the normalised filters and the adaptive convolution. Both programs are shown to compute these.
-/

@[expose] public section

noncomputable section

namespace Cert.Own

open Idealize.ShloMosaic Idealize.ShloMosaic.ValueIdx

/-- A volume of `n` channels. -/
abbrev Vol (n : ℕ) : Type := (⟨4, ![n, 128, 128, 128]⟩ : Shape).Idx → EReal
/-- The weights of a convolution from eight to `n` channels. -/
abbrev Wts (n : ℕ) : Type := (⟨5, ![n, 8, 3, 3, 3]⟩ : Shape).Idx → EReal

/-- The position is inside the border, which is one wide: the volume's positions are 1, …, 128. -/
abbrev Inside (p : ℕ) : Prop := 1 ≤ p ∧ p ≤ 128

/-- A position inside the border, as an index. -/
abbrev inner {p : ℕ} (h : Inside p) : Fin 128 := ⟨p - 1, by omega⟩

/-- The volume with a border of zeros. -/
def padAt (X : Vol 8) (c : Fin 8) (p q r : ℕ) : EReal :=
  if h : Inside p ∧ Inside q ∧ Inside r then X (ix4 c (inner h.1) (inner h.2.1) (inner h.2.2)) else 0

/-- The convolution. -/
def convAt {n : ℕ} (w : Wts n) (X : Vol 8) (o : Fin n) (z y x : ℕ) : EReal :=
  ∑ i : Fin 3, ∑ j : Fin 3, ∑ k : Fin 3, ∑ c : Fin 8, w (ix5 o c i j k) * padAt X c (z + i) (y + j) (x + k)

/-- The hidden layer: convolution, bias, positive part. -/
def hidden (w : Wts 8) (b : (⟨1, ![8]⟩ : Shape).Idx → EReal) (X : Vol 8) : Vol 8 :=
  cur4 fun o z y x => max (convAt w X o z y x + b (ix1 o)) 0

/-- The smallest divisor of the normalisation. -/
def tiny : EReal := Ideal.ofBits .f32 0x2B8CBCCC#32

/-- The sum of absolute values that the filters at one position are divided by. -/
def total (w : Wts 27) (X : Vol 8) (z y x : ℕ) : EReal :=
  max (∑ o : Fin 27, max (convAt w X o z y x) (-(convAt w X o z y x))) tiny

/-- The normalised filters: at every position 27 of them. -/
def filters (w : Wts 27) (X : Vol 8) : Vol 27 :=
  cur4 fun o z y x => Ideal.div (convAt w X o z y x) (total w X z y x)

/-- Tap `(i, j, k)` as one number. -/
abbrev tapOf (i j k : Fin 3) : Fin 27 := ⟨9 * i.val + 3 * j.val + k.val, by omega⟩

/-- The adaptive convolution: every position has its own filter, shared by the channels. -/
def adapted (W : Vol 27) (X : Vol 8) : Vol 8 :=
  cur4 fun c z y x => ∑ i : Fin 3, ∑ j : Fin 3, ∑ k : Fin 3,
    padAt X c (z + i) (y + j) (x + k) * W (ix4 (tapOf i j k) z y x)

/-- The whole function: three adaptive convolutions with the filters found from the hidden layer. -/
def result (X : Vol 8) (w1 : Wts 8) (b1 : (⟨1, ![8]⟩ : Shape).Idx → EReal) (w2 : Wts 27) : Vol 8 :=
  adapted (filters w2 (hidden w1 b1 X)) (adapted (filters w2 (hidden w1 b1 X)) (adapted (filters w2 (hidden w1 b1 X)) X))

/-- The first planes of the sixteen tiles of eight planes. -/
def lowPlanes (X : Vol 8) : (⟨4, ![8, 16, 128, 128]⟩ : Shape).Idx → EReal :=
  cur4 fun c t y x => X (ix4 c ⟨8 * t.val, by omega⟩ y x)
/-- The last planes of the sixteen tiles. -/
def highPlanes (X : Vol 8) : (⟨4, ![8, 16, 128, 128]⟩ : Shape).Idx → EReal :=
  cur4 fun c t y x => X (ix4 c ⟨8 * t.val + 7, by omega⟩ y x)

end Cert.Own
-- ==== Proof.TileVal.lean ====
module

public import proofs.«01_k».proof.Proof.Spec
public import proofs.«01_k».proof.Proof.Outs
public import Idealize.ShloMosaic.Lib.Pointwise
public import Idealize.ShloMosaic.Lib.IdealHost
public import Idealize.ShloMosaic.Lib.Pipeline.ValueKit

/-!
# What one tile holds, over the reals

A shifted slab is the slab read with a border of zeros; the slabs of a tile are the planes of the volume, the outer two
being zero at the volume's ends. So a tile's planes are the volume read with its border.
-/

@[expose] public section

set_option maxRecDepth 16384

noncomputable section

namespace Cert.Own

open Idealize.ShloMosaic hiding ix1 ix2 ix3 ix4 ix5
open Idealize.ShloMosaic.ValueIdx

/-- Reading at equal coordinates. -/
theorem at3 {α : Type} {n0 n1 n2 : ℕ} (v : (⟨3, ![n0, n1, n2]⟩ : Shape).Idx → α) {a a' : Fin n0} {b b' : Fin n1} {c c' : Fin n2}
    (ha : a.val = a'.val) (hb : b.val = b'.val) (hc : c.val = c'.val) : v (ix3 a b c) = v (ix3 a' b' c') := by
  rw [Fin.ext ha, Fin.ext hb, Fin.ext hc]

/-- Reading at equal coordinates. -/
theorem at4 {α : Type} {n0 n1 n2 n3 : ℕ} (v : (⟨4, ![n0, n1, n2, n3]⟩ : Shape).Idx → α) {a a' : Fin n0} {b b' : Fin n1}
    {c c' : Fin n2} {d d' : Fin n3} (ha : a.val = a'.val) (hb : b.val = b'.val) (hc : c.val = c'.val) (hd : d.val = d'.val) :
    v (ix4 a b c d) = v (ix4 a' b' c' d') := by
  rw [Fin.ext ha, Fin.ext hb, Fin.ext hc, Fin.ext hd]

/-- Reading at equal coordinates. -/
theorem at5 {α : Type} {n0 n1 n2 n3 n4 : ℕ} (v : (⟨5, ![n0, n1, n2, n3, n4]⟩ : Shape).Idx → α) {a a' : Fin n0} {b b' : Fin n1}
    {c c' : Fin n2} {d d' : Fin n3} {e e' : Fin n4} (ha : a.val = a'.val) (hb : b.val = b'.val) (hc : c.val = c'.val)
    (hd : d.val = d'.val) (he : e.val = e'.val) : v (ix5 a b c d e) = v (ix5 a' b' c' d' e') := by
  rw [Fin.ext ha, Fin.ext hb, Fin.ext hc, Fin.ext hd, Fin.ext he]

/-! ## Shifts -/

/-- A slab moved along the lanes. -/
theorem shX_apply (d : ℕ) (hd : d < 3) (v : FVec Ideal Sv .f32) (c : Fin 8) (y x : Fin 128) :
    shX d v (ix3 c y x) = if h : Inside (x.val + d) then v (ix3 c y (inner h)) else 0 := by
  unfold shX
  split_ifs with h0 h1 h2 h2 h3
  · pointwise
    refine (dif_neg (show ¬ x.val < 1 by omega)).trans ?_
    rw [ix3_eq_valueIdx]
    exact at3 v rfl rfl (show x.val - 1 = x.val + d - 1 by omega)
  · pointwise
    exact dif_pos (show x.val < 1 by omega)
  · exact at3 v rfl rfl (show x.val = x.val + d - 1 by omega)
  · exact absurd (show Inside (x.val + d) by omega) h2
  · pointwise
    refine (dif_pos (show x.val < 127 by omega)).trans ?_
    rw [ix3_eq_valueIdx]
    exact at3 v rfl rfl (show 1 + x.val = x.val + d - 1 by omega)
  · pointwise
    exact dif_neg (show ¬ x.val < 127 by omega)

/-- A slab moved along the rows. -/
theorem shY_apply (d : ℕ) (hd : d < 3) (v : FVec Ideal Sv .f32) (c : Fin 8) (y x : Fin 128) :
    shY d v (ix3 c y x) = if h : Inside (y.val + d) then v (ix3 c (inner h) x) else 0 := by
  unfold shY
  split_ifs with h0 h1 h2 h2 h3
  · pointwise
    refine (dif_neg (show ¬ y.val < 1 by omega)).trans ?_
    rw [ix3_eq_valueIdx]
    exact at3 v rfl (show y.val - 1 = y.val + d - 1 by omega) rfl
  · pointwise
    exact dif_pos (show y.val < 1 by omega)
  · exact at3 v rfl (show y.val = y.val + d - 1 by omega) rfl
  · exact absurd (show Inside (y.val + d) by omega) h2
  · pointwise
    refine (dif_pos (show y.val < 127 by omega)).trans ?_
    rw [ix3_eq_valueIdx]
    exact at3 v rfl (show 1 + y.val = y.val + d - 1 by omega) rfl
  · pointwise
    exact dif_neg (show ¬ y.val < 127 by omega)

/-- A shifted slab is the slab read with a border of zeros. -/
theorem shift_apply (k : ℕ) (hk : k < 9) (v : FVec Ideal Sv .f32) (c : Fin 8) (y x : Fin 128) :
    shift k v (ix3 c y x) = if h : Inside (y.val + k / 3) ∧ Inside (x.val + k % 3) then v (ix3 c (inner h.1) (inner h.2)) else 0 := by
  unfold shift
  rw [shX_apply _ (by omega)]
  by_cases hx : Inside (x.val + k % 3)
  · rw [dif_pos hx, shY_apply _ (by omega)]
    by_cases hy : Inside (y.val + k / 3)
    · rw [dif_pos hy, dif_pos ⟨hy, hx⟩]
    · rw [dif_neg hy, dif_neg (fun h => hy h.1)]
  · rw [dif_neg hx, dif_neg (fun h => hx h.2)]

/-! ## Slabs -/

/-- The three blocks a tile reads are planes of the volume `X`: the plane before, its eight planes, the plane after. -/
structure Blocks (X : Vol 8) (T : Fin 16) (xlo : FVec Ideal (Sb 8 1) .f32) (xcu : FVec Ideal (Sb 8 8) .f32)
    (xhi : FVec Ideal (Sb 8 1) .f32) : Prop where
  lo : ∀ h : 0 < T.val, ∀ c y x, xlo (ix4 c 0 y x) = X (ix4 c ⟨8 * T.val - 1, by omega⟩ y x)
  cu : ∀ c (z : Fin 8) y x, xcu (ix4 c z y x) = X (ix4 c ⟨8 * T.val + z.val, by omega⟩ y x)
  hi : ∀ h : T.val < 15, ∀ c y x, xhi (ix4 c 0 y x) = X (ix4 c ⟨8 * T.val + 8, by omega⟩ y x)

/-- A halo slab is the plane, or zero. -/
theorem haloOf_apply (b : BitVec 1) (w : FVec Ideal (Sb 8 1) .f32) (c : Fin 8) (y x : Fin 128) :
    haloOf b (at' (planeRect 8 1 0) w) (ix3 c y x) = if b = 1#1 then w (ix4 c 0 y x) else 0 := by
  have h1 : (Scalar.ofBits .f32 0x3F800000#32 : Ideal .f32) = 1 := Ideal.ofBits_one_f32
  have h0 : (zf : Ideal .f32) = 0 := Ideal.ofBits_zero_f32
  show slabOf (at' (planeRect 8 1 0) w) (ix3 c y x)
    * Scalar.select b (Scalar.ofBits .f32 0x3F800000#32 : Ideal .f32) zf = _
  unfold slabOf
  rw [read_plane, h1, h0]
  by_cases h : b = 1#1
  · rw [if_pos h]
    exact (congrArg _ (if_pos h)).trans (mul_one _)
  · rw [if_neg h]
    exact (congrArg _ (if_neg h)).trans (mul_zero _)

/-- Which blocks are not the first. -/
theorem bitLo_ofNat : ∀ T : Fin 16, bitLo (BitVec.ofNat 32 T.val) = 1#1 ↔ 0 < T.val := by decide
/-- Which blocks are not the last. -/
theorem bitHi_ofNat : ∀ T : Fin 16, bitHi (BitVec.ofNat 32 T.val) = 1#1 ↔ T.val < 15 := by decide

section
variable {X : Vol 8} {T : Fin 16} {xlo : FVec Ideal (Sb 8 1) .f32} {xcu : FVec Ideal (Sb 8 8) .f32}
  {xhi : FVec Ideal (Sb 8 1) .f32} (B : Blocks X T xlo xcu xhi)
include B

/-- Slab `s` of a tile is the plane at padded position `8 T + s`. -/
theorem slabVal_apply (s : ℕ) (hs : s < 10) (c : Fin 8) (y x : Fin 128) :
    slabVal (F := Ideal) (BitVec.ofNat 32 T.val) xlo xcu xhi s (ix3 c y x)
      = if h : Inside (8 * T.val + s) then X (ix4 c (inner h) y x) else 0 := by
  have hT := T.isLt
  unfold slabVal
  split_ifs with h0 h1 h1 h2 h2
  · rw [haloOf_apply, if_pos ((bitLo_ofNat T).2 (by omega)), B.lo (by omega)]
    exact at4 X rfl (show 8 * T.val - 1 = 8 * T.val + s - 1 by omega) rfl rfl
  · rw [haloOf_apply, if_neg (fun h => by have := (bitLo_ofNat T).1 h; omega)]
  · unfold slabOf
    rw [read_plane, B.cu]
    exact at4 X rfl (show 8 * T.val + (s - 1) = 8 * T.val + s - 1 by omega) rfl rfl
  · omega
  · rw [haloOf_apply, if_pos ((bitHi_ofNat T).2 (by omega)), B.hi (by omega)]
    exact at4 X rfl (show 8 * T.val + 8 = 8 * T.val + s - 1 by omega) rfl rfl
  · rw [haloOf_apply, if_neg (fun h => by have := (bitHi_ofNat T).1 h; omega)]

/-- A shifted slab of a tile is the volume read with its border. -/
theorem shift_slabVal (k : ℕ) (hk : k < 9) (s : ℕ) (hs : s < 10) (c : Fin 8) (y x : Fin 128) :
    shift k (slabVal (F := Ideal) (BitVec.ofNat 32 T.val) xlo xcu xhi s) (ix3 c y x)
      = padAt X c (8 * T.val + s) (y + k / 3) (x + k % 3) := by
  rw [shift_apply k hk]
  unfold padAt
  by_cases h : Inside (y.val + k / 3) ∧ Inside (x.val + k % 3)
  · rw [dif_pos h, slabVal_apply B s hs]
    by_cases hz : Inside (8 * T.val + s)
    · rw [dif_pos hz, dif_pos ⟨hz, h⟩]
    · rw [dif_neg hz, dif_neg (fun h' => hz h'.1)]
  · rw [dif_neg h, dif_neg (fun h' => h h'.2)]
end

/-! ## Sums over the taps -/

/-- Triple sums of equal terms. -/
theorem sum3_congr {a b c : ℕ} {f g : Fin a → Fin b → Fin c → EReal} (h : ∀ i j k, f i j k = g i j k) :
    ∑ i, ∑ j, ∑ k, f i j k = ∑ i, ∑ j, ∑ k, g i j k := by simp only [h]

/-- The 27 taps by their three coordinates. -/
theorem sum27 (f : ℕ → ℕ → ℕ → EReal) :
    ∑ t : Fin 27, f (t.val / 9) (t.val % 9 / 3) (t.val % 3) = ∑ i : Fin 3, ∑ j : Fin 3, ∑ k : Fin 3, f i.val j.val k.val := by
  have h := Fin.sum_univ_mul_divmod 3 9 fun a b => f a (b / 3) (b % 3)
  refine Eq.trans ?_ (h.trans (Finset.sum_congr rfl fun i _ => Fin.sum_univ_mul_divmod 3 3 fun a b => f i.val a b))
  refine Finset.sum_congr rfl fun t _ => ?_
  rw [Nat.mod_mod_of_dvd t.val (show 3 ∣ 9 by decide)]

/-- The 72 rows of a slot by shift and channel. -/
theorem sum72 (f : ℕ → ℕ → ℕ → EReal) :
    ∑ r : Fin 72, f (r.val / 8 / 3) (r.val / 8 % 3) (r.val % 8) = ∑ j : Fin 3, ∑ k : Fin 3, ∑ c : Fin 8, f j.val k.val c.val := by
  have h := Fin.sum_univ_mul_divmod 9 8 fun a b => f (a / 3) (a % 3) b
  exact h.trans (Fin.sum_univ_mul_divmod 3 3 fun a b => ∑ c : Fin 8, f a b c.val)

/-- `W` holds the weights `w` packed: for each depth tap a matrix whose column `8 (3 j + k) + c` is tap `(j, k)` of channel `c`. -/
def IsPacked {n : ℕ} (w : Wts n) (W : (⟨3, ![3, n, 72]⟩ : Shape).Idx → EReal) : Prop :=
  ∀ (d : Fin 3) (o : Fin n) (r : Fin 72),
    W (ix3 d o r) = w (ix5 o (rowChan r) d ⟨r.val / 8 / 3, by omega⟩ ⟨r.val / 8 % 3, by omega⟩)

/-- The product `D` contracts the rows of a slot. -/
def IsDot {n : ℕ} (D : DotDims ⟨2, ![n, 72]⟩ ⟨3, ![72, 128, 128]⟩ ⟨3, ![n, 128, 128]⟩) : Prop :=
  ∀ (l : FVec Ideal ⟨2, ![n, 72]⟩ .bf16) (r : FVec Ideal ⟨3, ![72, 128, 128]⟩ .bf16)
    (a : FVec Ideal ⟨3, ![n, 128, 128]⟩ .f32) (o : Fin n) (y x : Fin 128),
    matmul D none l r a (ix3 o y x) = a (ix3 o y x) + ∑ k : Fin 72, l (ix2 o k) * r (ix3 k y x)

section
variable {X : Vol 8} {T : Fin 16} {xlo : FVec Ideal (Sb 8 1) .f32} {xcu : FVec Ideal (Sb 8 8) .f32}
  {xhi : FVec Ideal (Sb 8 1) .f32} (B : Blocks X T xlo xcu xhi)
include B

/-- The slabs of the tile. -/
local notation "slabs" => slabVal (F := Ideal) (BitVec.ofNat 32 T.val) xlo xcu xhi

section Adapt
variable {G : Vol 27} {W : FVec Ideal (Sb 27 8) .bf16}
  (hW : ∀ t (z : Fin 8) y x, W (ix4 t z y x) = G (ix4 t ⟨8 * T.val + z.val, by omega⟩ y x))
include hW

/-- The term of tap `t`. -/
theorem tapProd_apply (z : Fin 8) (t : Fin 27) (c : Fin 8) (y x : Fin 128) :
    tapProd slabs W z t c (ix2 y x)
      = padAt X c (8 * T.val + z.val + t.val / 9) (y + t.val % 9 / 3) (x + t.val % 3)
        * G (ix4 t ⟨8 * T.val + z.val, by omega⟩ y x) := by
  have ht := t.isLt
  unfold tapProd
  show planeOf (e := .f32) id slabs (z.val + t.val / 9) (t.val % 9) c (ix2 y x)
    * shapeCast (s := Sr1) Sp (at' (cellRect 27 8 t z) W) _ (ix2 y x) = _
  rw [read_cell, hW]
  show shift (t.val % 9) (slabs (z.val + t.val / 9)) (ix3 c y x) * _ = _
  rw [shift_slabVal B _ (by omega) _ (by omega), Nat.mod_mod_of_dvd t.val (show 3 ∣ 9 by decide), ← add_assoc]

/-- The first `n` taps, as a sum. -/
theorem tapSum_apply (z : Fin 8) (n : ℕ) (hn : n ≤ 27) (c : Fin 8) (y x : Fin 128) :
    tapSum slabs W z n c (ix2 y x) = ∑ t : Fin n, tapProd slabs W z ⟨t.val, by omega⟩ c (ix2 y x) := by
  induction n with
  | zero => exact Ideal.ofBits_zero_f32
  | succ n ih =>
    rw [Fin.sum_univ_castSucc]
    show (if h : n < 27 then (if n = 0 then tapProd slabs W z ⟨n, h⟩ c
      else addf (tapSum slabs W z n c) (tapProd slabs W z ⟨n, h⟩ c)) else tapSum slabs W z n c) (ix2 y x) = _
    rw [dif_pos (by omega)]
    by_cases h0 : n = 0
    · subst h0
      rw [if_pos rfl, Fin.sum_univ_zero, zero_add]
      rfl
    · rw [if_neg h0]
      exact congrArg (fun a : EReal => a + tapProd slabs W z ⟨n, by omega⟩ c (ix2 y x)) (ih (by omega))

/-- One position of an adaptive convolution's block. -/
theorem adaptVal_apply (z c : Fin 8) (y x : Fin 128) :
    adaptVal slabs W z c (ix2 y x) = adapted G X (ix4 c ⟨8 * T.val + z.val, by omega⟩ y x) := by
  unfold adaptVal
  rw [tapSum_apply B hW z 27 le_rfl]
  have h := sum27 fun i j k => padAt X c (8 * T.val + z.val + i) (y + j) (x + k)
    * (if h : 9 * i + 3 * j + k < 27 then G (ix4 ⟨9 * i + 3 * j + k, h⟩ ⟨8 * T.val + z.val, by omega⟩ y x) else 0)
  refine Eq.trans (Finset.sum_congr rfl fun t _ => ?_) (h.trans ?_)
  · have ht : 9 * (t.val / 9) + 3 * (t.val % 9 / 3) + t.val % 3 = t.val := by omega
    rw [tapProd_apply B hW, dif_pos (by omega)]
    exact congrArg _ (at4 G ht.symm rfl rfl rfl)
  · show _ = ∑ i : Fin 3, ∑ j : Fin 3, ∑ k : Fin 3, padAt X c (8 * T.val + z.val + i.val) (y + j) (x + k)
      * G (ix4 (tapOf i j k) ⟨8 * T.val + z.val, by omega⟩ y x)
    refine sum3_congr fun i j k => ?_
    exact congrArg _ (dif_pos (show 9 * i.val + 3 * j.val + k.val < 27 by omega))
end Adapt

section Conv
variable {n : ℕ} {D : DotDims ⟨2, ![n, 72]⟩ ⟨3, ![72, 128, 128]⟩ ⟨3, ![n, 128, 128]⟩} (hD : IsDot D)
  {w : Wts n} {W : FVec Ideal ⟨3, ![3, n, 72]⟩ .bf16} (hW : IsPacked w W)
  (hs : (⟨3, ![1, n, 72]⟩ : Shape).ShapeCasts ⟨2, ![n, 72]⟩)
include hD hW

/-- One depth tap of a convolution. -/
theorem dotProd_apply (z : Fin 8) (d : Fin 3) (o : Fin n) (y x : Fin 128) :
    dotProd D slabs W hs z d (ix3 o y x)
      = ∑ j : Fin 3, ∑ k : Fin 3, ∑ c : Fin 8, w (ix5 o c d j k) * padAt X c (8 * T.val + z.val + d) (y + j) (x + k) := by
  have hz := z.isLt
  have hd := d.isLt
  unfold dotProd
  rw [hD]
  have h0 : constant (F := Ideal) ⟨3, ![n, 128, 128]⟩ .f32 0x00000000#32 (ix3 o y x) = 0 := Ideal.ofBits_zero_f32
  rw [h0, zero_add]
  have h := sum72 fun j k c => if h : c < 8 ∧ j < 3 ∧ k < 3 then
    w (ix5 o ⟨c, h.1⟩ d ⟨j, h.2.1⟩ ⟨k, h.2.2⟩) * padAt X ⟨c, h.1⟩ (8 * T.val + z.val + d) (y + j) (x + k) else 0
  refine Eq.trans (Finset.sum_congr rfl fun r _ => ?_) (h.trans ?_)
  · have hr := r.isLt
    rw [dif_pos (by omega)]
    unfold lhsOf
    rw [read_depth, hW]
    show _ * shift (r.val / 8) (slabs (z.val + d.val)) (ix3 (rowChan r) y x) = _
    rw [shift_slabVal B _ (by omega) _ (by omega), ← add_assoc]
    rfl
  · refine sum3_congr fun j k c => ?_
    exact dif_pos ⟨c.isLt, j.isLt, k.isLt⟩

/-- The three depth taps of a convolution. -/
theorem dotSum_apply (z : Fin 8) (o : Fin n) (y x : Fin 128) :
    dotSum D slabs W hs z 3 (ix3 o y x) = convAt w X o (8 * T.val + z.val) y x := by
  show dotProd D slabs W hs z 0 (ix3 o y x) + dotProd D slabs W hs z 1 (ix3 o y x) + dotProd D slabs W hs z 2 (ix3 o y x) = _
  unfold convAt
  rw [Fin.sum_univ_three (M := EReal), dotProd_apply B hD hW, dotProd_apply B hD hW, dotProd_apply B hD hW]
end Conv
end

/-! ## What is done with a convolution's sum -/

/-- One channel of a slab, at a position. -/
theorem chan_apply (c : Fin 8) (v : FVec Ideal Sv .f32) (y x : Fin 128) : chan c v (ix2 y x) = v (ix3 c y x) := by
  unfold chan
  pointwise
  rw [ix3_eq_valueIdx]

/-- Bias and positive part, at a position. -/
theorem biasRelu_apply (v : FVec Ideal Sp .f32) (b : EReal) (y x : Fin 128) :
    biasRelu (F := Ideal) v b (ix2 y x) = max (v (ix2 y x) + b) 0 := by
  show max (v (ix2 y x) + b) (zf : Ideal .f32) = _
  rw [show (zf : Ideal .f32) = 0 from Ideal.ofBits_zero_f32]

/-- The smallest divisor is positive. -/
theorem tiny_pos : 0 < tiny := by
  unfold tiny
  simp [Ideal.ofBits, Ideal.ieee, -EReal.coe_mul]

/-- A product with a reciprocal is a quotient. -/
theorem mul_div_one (a b : EReal) (hb : 0 < b) : a * Ideal.div 1 b = Ideal.div a b := by
  unfold Ideal.div
  rw [if_neg hb.ne', if_neg hb.ne', one_mul]

/-- The normalisation, at a position: the quotient by the sum of absolute values. -/
theorem normed_apply (v : FVec Ideal ⟨3, ![27, 128, 128]⟩ .f32) (o : Fin 27) (y x : Fin 128) :
    normed v (ix3 o y x) = Ideal.div (v (ix3 o y x)) (max (∑ k : Fin 27, max (v (ix3 k y x)) (-(v (ix3 k y x)))) tiny) := by
  unfold normed
  pointwise
  have h : (max (∑ k : Fin 27, FloatOps.absf (v (Idealize.ShloMosaic.ix3 k y x))) (Ideal.ofBits .f32 0x2B8CBCCC#32) : EReal)
      = max (∑ k : Fin 27, max (v (ix3 k y x)) (-(v (ix3 k y x)))) tiny := by
    refine congrArg (fun a => max a tiny) (Finset.sum_congr rfl fun k _ => ?_)
    rw [ix3_eq_valueIdx]
    rfl
  refine (congrArg (fun a => v (ix3 o y x) * Ideal.div 1 a) h).trans ?_
  exact mul_div_one _ _ (lt_of_lt_of_le tiny_pos (le_max_right _ _))

end Cert.Own
-- ==== Proof.Tiling.lean ====
module

public import proofs.«01_k».proof.Proof.TileVal

/-!
# Blocks in arrays

How the blocks a call reads and writes lie in its arrays, stated over the coordinates of an index. The calls differ in
their windows only; what follows from the coordinates is proved here once.
-/

@[expose] public section

set_option maxRecDepth 16384

noncomputable section

namespace Cert.Own

open Idealize.ShloMosaic hiding ix1 ix2 ix3 ix4 ix5 eq_ix4
open Idealize.ShloMosaic.ValueIdx

/-- An index is its four coordinates. -/
theorem coords4 {n0 n1 n2 n3 : ℕ} (i : (⟨4, ![n0, n1, n2, n3]⟩ : Shape).Idx) : ∃ c z y x, i = ix4 c z y x :=
  ⟨_, _, _, _, eq_ix4 i⟩

/-- Index `j` of an array is where index `i` of the block at plane offset `o` lies. -/
abbrev LiesAt {n0 n1 m1 : ℕ} (o : ℕ) (j : (⟨4, ![n0, n1, 128, 128]⟩ : Shape).Idx) (i : (⟨4, ![n0, m1, 128, 128]⟩ : Shape).Idx) :
    Prop := (j 0).val = (i 0).val ∧ (j 1).val = o + (i 1).val ∧ (j 2).val = (i 2).val ∧ (j 3).val = (i 3).val

/-- An array read where a block's index lies. -/
theorem read_liesAt {α : Type} {n0 n1 m1 : ℕ} (X : (⟨4, ![n0, n1, 128, 128]⟩ : Shape).Idx → α) {o : ℕ}
    {j : (⟨4, ![n0, n1, 128, 128]⟩ : Shape).Idx} {c : Fin n0} {z : Fin m1} {y x : Fin 128}
    (h : LiesAt o j (ix4 c z y x)) (hz : o + z.val < n1) : X j = X (ix4 c ⟨o + z.val, hz⟩ y x) := by
  obtain ⟨h0, h1, h2, h3⟩ := h
  obtain ⟨c', z', y', x', rfl⟩ := coords4 j
  exact at4 X h0 h1 h2 h3

/-- The three blocks of a tile, read from a volume and the planes at its tiles' ends. -/
theorem Blocks.of {X : Vol 8} (T : Fin 16) {e0 : (Sb 8 1).Idx → (⟨4, ![8, 16, 128, 128]⟩ : Shape).Idx}
    {e1 : (Sb 8 8).Idx → (⟨4, ![8, 128, 128, 128]⟩ : Shape).Idx} {e2 : (Sb 8 1).Idx → (⟨4, ![8, 16, 128, 128]⟩ : Shape).Idx}
    (h0 : ∀ i, LiesAt (T.val - 1) (e0 i) i) (h1 : ∀ i, LiesAt (8 * T.val) (e1 i) i)
    (h2 : ∀ i, LiesAt (min (T.val + 1) 15) (e2 i) i) :
    Blocks X T (fun i => highPlanes X (e0 i)) (fun i => X (e1 i)) (fun i => lowPlanes X (e2 i)) := by
  have hT := T.isLt
  constructor
  · intro h c y x
    show highPlanes X _ = _
    rw [read_liesAt (highPlanes X) (h0 _) (show T.val - 1 + (0 : Fin 1).val < 16 by show T.val - 1 + 0 < 16; omega)]
    exact at4 X rfl (show 8 * (T.val - 1 + 0) + 7 = 8 * T.val - 1 by omega) rfl rfl
  · intro c z y x
    exact read_liesAt X (h1 _) (by omega)
  · intro h c y x
    show lowPlanes X _ = _
    rw [read_liesAt (lowPlanes X) (h2 _) (show min (T.val + 1) 15 + (0 : Fin 1).val < 16 by show min (T.val + 1) 15 + 0 < 16; omega)]
    exact at4 X rfl (show 8 * (min (T.val + 1) 15 + 0) = 8 * T.val + 8 by omega) rfl rfl

section Out
/-- The planes `P` are those of tile `T` of the volume `Y`. -/
def IsTile (P : Fin 8 → Fin 8 → FVec Ideal Sp .f32) (Y : Vol 8) (T : Fin 16) : Prop :=
  ∀ (z c : Fin 8) (y x : Fin 128), P z c (ix2 y x) = Y (ix4 c ⟨8 * T.val + z.val, by omega⟩ y x)

variable {P : Fin 8 → Fin 8 → FVec Ideal Sp .f32} {Y : Vol 8} {T : Fin 16} (hP : IsTile P Y T)
include hP

/-- The block written is the tile of the volume. -/
theorem outAll_eq {i : (Sb 8 8).Idx} {j : (⟨4, ![8, 128, 128, 128]⟩ : Shape).Idx} (h : LiesAt (8 * T.val) j i) :
    outAll P i = Y j := by
  obtain ⟨c, z, y, x, rfl⟩ := coords4 i
  exact (hP _ _ _ _).trans (read_liesAt Y h (by omega)).symm

/-- The low planes written are the tiles' first. -/
theorem loAll_eq {i : (Sb 8 1).Idx} {j : (⟨4, ![8, 16, 128, 128]⟩ : Shape).Idx} (h : LiesAt T.val j i) :
    loAll P i = lowPlanes Y j := by
  obtain ⟨c, z, y, x, rfl⟩ := coords4 i
  have h1 : z.val = 0 := by omega
  refine (hP _ _ _ _).trans ((at4 Y rfl ?_ rfl rfl).trans (read_liesAt (lowPlanes Y) h (by rw [h1]; exact T.isLt)).symm)
  show 8 * T.val + 0 = 8 * (T.val + z.val)
  omega

/-- The high planes written are the tiles' last. -/
theorem hiAll_eq {i : (Sb 8 1).Idx} {j : (⟨4, ![8, 16, 128, 128]⟩ : Shape).Idx} (h : LiesAt T.val j i) :
    hiAll P i = highPlanes Y j := by
  obtain ⟨c, z, y, x, rfl⟩ := coords4 i
  have h1 : z.val = 0 := by omega
  refine (hP _ _ _ _).trans ((at4 Y rfl ?_ rfl rfl).trans (read_liesAt (highPlanes Y) h (by rw [h1]; exact T.isLt)).symm)
  show 8 * T.val + 7 = 8 * (T.val + z.val) + 7
  omega
end Out

/-- The planes `P` are those of tile `T` of the filters `Y`. -/
def IsFiltTile (P : Fin 8 → FVec Ideal ⟨3, ![27, 128, 128]⟩ .bf16) (Y : Vol 27) (T : Fin 16) : Prop :=
  ∀ (z : Fin 8) (k : Fin 27) (y x : Fin 128), P z (ix3 k y x) = Y (ix4 k ⟨8 * T.val + z.val, by omega⟩ y x)

/-- The filters' block written is the tile of the filters. -/
theorem filtAll_eq {P : Fin 8 → FVec Ideal ⟨3, ![27, 128, 128]⟩ .bf16} {Y : Vol 27} {T : Fin 16}
    (hP : IsFiltTile P Y T) {i : (Sb 27 8).Idx}
    {j : (⟨4, ![27, 128, 128, 128]⟩ : Shape).Idx} (h : LiesAt (8 * T.val) j i) : filtAll P i = Y j := by
  obtain ⟨c, z, y, x, rfl⟩ := coords4 i
  exact (hP _ _ _ _).trans (read_liesAt Y h (by omega)).symm

/-! ## The convolutions -/

section Conv
variable {X : Vol 8} {T : Fin 16} {xlo : FVec Ideal (Sb 8 1) .f32} {xcu : FVec Ideal (Sb 8 8) .f32}
  {xhi : FVec Ideal (Sb 8 1) .f32} (B : Blocks X T xlo xcu xhi)
include B

/-- The first convolution's planes are the hidden layer's. -/
theorem conv1Val_isTile {D : DotDims ⟨2, ![8, 72]⟩ ⟨3, ![72, 128, 128]⟩ ⟨3, ![8, 128, 128]⟩} (hD : IsDot D) {w : Wts 8}
    {W : FVec Ideal ⟨3, ![3, 8, 72]⟩ .bf16} (hW : IsPacked w W) {b : (⟨1, ![8]⟩ : Shape).Idx → EReal}
    {C : FVec Ideal ⟨2, ![1, 8]⟩ .f32} (hC : ∀ k, C (ix2 0 k) = b (ix1 k)) :
    IsTile (conv1Val D (slabVal (F := Ideal) (BitVec.ofNat 32 T.val) xlo xcu xhi) W C) (hidden w b X) T := by
  intro z c y x
  unfold conv1Val
  refine (biasRelu_apply _ _ y x).trans ?_
  rw [chan_apply, dotSum_apply B hD hW, hC]
  rfl

/-- The second convolution's planes are the filters'. -/
theorem conv2Val_isTile {D : DotDims ⟨2, ![27, 72]⟩ ⟨3, ![72, 128, 128]⟩ ⟨3, ![27, 128, 128]⟩} (hD : IsDot D) {w : Wts 27}
    {W : FVec Ideal ⟨3, ![3, 27, 72]⟩ .bf16} (hW : IsPacked w W) :
    IsFiltTile (conv2Val D (slabVal (F := Ideal) (BitVec.ofNat 32 T.val) xlo xcu xhi) W) (filters w X) T := by
  intro z k y x
  unfold conv2Val
  rw [normed_apply]
  simp only [dotSum_apply B hD hW]
  rfl
end Conv

end Cert.Own
-- ==== Proof.Entry.lean ====
module

public import proofs.«01_k».proof.Proof.Tiling
public import proofs.«01_k».proof.Proof.Chain
public import Idealize.ShloMosaic.Lib.StableHlo.ReadAt

/-!
# What the calls are entered with

The host prepares the calls: the input as a volume, its planes at the tiles' ends, the weights packed, the bias as a row.
-/

@[expose] public section

set_option maxRecDepth 16384

noncomputable section

namespace Cert.KernelIdeal.Own

open Cert.Own
open Cert.KernelIdeal Cert.KernelIdeal.Gen
open Idealize.ShloMosaic hiding ix1 ix2 ix3 ix4 ix5 eq_ix4
open Idealize.ShloMosaic.ValueIdx Idealize.ShloMosaic.TcCoe

variable (m : (ℓ : Loc nD τ sig) → Buf (Elt Ideal) ℓ) (ρ : Dev nD → PrngReg) (c : Dev nD)

/-- The input as a volume. -/
def inVol : Vol 8 := cur4 fun k z y x => (m ((c : Thread nD τ).loc main_arg0) : FVec Ideal S1x8x128x128x128 .f32) (ix5 0 k z y x)

/-- The input as a volume. -/
theorem W1_main_v0 : W1 m ρ c (Proc.devRef .tc main_v0) = inVol m c := by
  apply ext4
  intro k z y x
  unfold W1 hostOps0
  after_reads_at
  rw [ix5_eq_valueIdx]
  rfl

/-- The tiles' first planes. -/
theorem W1_main_v1 : W1 m ρ c (Proc.devRef .tc main_v1) = lowPlanes (inVol m c) := by
  apply ext4
  intro k z y x
  unfold W1 hostOps0
  after_reads_at
  rw [ix5_eq_valueIdx]
  rfl

/-- The tiles' last planes. -/
theorem W1_main_v2 : W1 m ρ c (Proc.devRef .tc main_v2) = highPlanes (inVol m c) := by
  apply ext4
  intro k z y x
  unfold W1 hostOps0
  after_reads_at
  rw [ix5_eq_valueIdx]
  refine at5 (m ((c : Thread nD τ).loc main_arg0) : FVec Ideal S1x8x128x128x128 .f32) rfl rfl ?_ rfl rfl
  show 7 + 8 * z.val = 8 * z.val + 7
  omega

/-- The first convolution's weights, packed. -/
theorem W1_main_v5 : IsPacked (m ((c : Thread nD τ).loc main_arg1)) (W1 m ρ c (Proc.devRef .tc main_v5)) := by
  intro d o r
  unfold W1 hostOps0
  after_reads_at
  rw [ix5_eq_valueIdx]
  refine at5 (m ((c : Thread nD τ).loc main_arg1) : FVec Ideal S8x8x3x3x3 .f32) rfl rfl rfl ?_ rfl
  show r.val / 24 = r.val / 8 / 3
  omega

/-- The second convolution's weights, packed. -/
theorem W1_main_v8 : IsPacked (m ((c : Thread nD τ).loc main_arg3)) (W1 m ρ c (Proc.devRef .tc main_v8)) := by
  intro d o r
  unfold W1 hostOps0
  after_reads_at
  rw [ix5_eq_valueIdx]
  refine at5 (m ((c : Thread nD τ).loc main_arg3) : FVec Ideal S27x8x3x3x3 .f32) rfl rfl rfl ?_ rfl
  show r.val / 24 = r.val / 8 / 3
  omega

/-- The bias as a row. -/
theorem W1_main_v9 (k : Fin 8) : (W1 m ρ c (Proc.devRef .tc main_v9) : FVec Ideal S1x8 .f32) (ix2 0 k)
    = (m ((c : Thread nD τ).loc main_arg2) : FVec Ideal S8 .f32) (ix1 k) := by
  unfold W1 hostOps0
  after_reads_at
  rw [ix1_eq_valueIdx]

end Cert.KernelIdeal.Own
-- ==== Proof.Val0.lean ====
module

public import proofs.«01_k».proof.Proof.Tiling
public import proofs.«01_k».proof.Proof.Call0

/-!
# What the first call leaves

Entered with a volume, its planes at the tiles' ends, the packed weights and the bias, the call leaves the hidden layer and
its planes at the tiles' ends.
-/

@[expose] public section

set_option maxRecDepth 16384

noncomputable section

namespace Cert.KernelIdeal.Own

open Cert.Own
open Cert.KernelIdeal Cert.KernelIdeal.Gen
open Idealize.ShloMosaic hiding ix1 ix2 ix3 ix4 ix5
open Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

/-- Where the blocks of the first call lie. -/
theorem index0 : ∀ t : Fin cfg0.N, (grid0.coords t 0).val = t.val
    ∧ win0_0.index t = ![0, t.val - 1, 0, 0] ∧ win0_1.index t = ![0, t.val, 0, 0]
    ∧ win0_2.index t = ![0, min (t.val + 1) 15, 0, 0] ∧ win0_3.index t = ![0, 0, 0] ∧ win0_4.index t = ![0, 0]
    ∧ win0_5.index t = ![0, t.val, 0, 0] ∧ win0_6.index t = ![0, t.val, 0, 0] ∧ win0_7.index t = ![0, t.val, 0, 0] :=
  (by decide +kernel : ∀ t : Fin grid0.N, _)

/-- The tile's number. -/
abbrev tile0 (t : Fin cfg0.N) : Fin 16 := grid0.coords t 0

/-- The call's products contract the rows of a slot. -/
theorem isDot0 : IsDot dot_S8x72_S72x128x128_S8x128x128_1_0_0_12_n_n := by
  intro l r a o y x
  pointwise
  simp only [ix2_eq_valueIdx, ix3_eq_valueIdx]

section
variable {V} {c : Dev nD} {X : Vol 8} (h0 : V c (Pipeline.arrRef spec0 0) = highPlanes X)
  (h1 : V c (Pipeline.arrRef spec0 1) = X) (h2 : V c (Pipeline.arrRef spec0 2) = lowPlanes X)
include h0 h1 h2

/-- The blocks read are the tile's. -/
theorem blocks0 (t : Fin cfg0.N) : Blocks X (tile0 t) (iblk0 V c 0 t) (iblk0 V c 1 t) (iblk0 V c 2 t) := by
  obtain ⟨et, e0, e1, e2, -⟩ := index0 t
  unfold iblk0
  rw [h0, h1, h2]
  refine Blocks.of (tile0 t) (fun i => ?_) (fun i => ?_) (fun i => ?_)
  all_goals
    refine ⟨?_, ?_, ?_, ?_⟩
    all_goals blk_simp [e0, e1, e2, tile0, et]
  all_goals omega

variable {w : Wts 8} (h3 : IsPacked w (V c (Pipeline.arrRef spec0 3))) {b : (⟨1, ![8]⟩ : Shape).Idx → EReal}
  {C : (⟨2, ![1, 8]⟩ : Shape).Idx → EReal} (h4 : V c (Pipeline.arrRef spec0 4) = C) (hC : ∀ k, C (ix2 0 k) = b (ix1 k))
include h3 h4 hC

/-- The planes computed are the hidden layer's. -/
theorem planes0 (t : Fin cfg0.N) : IsTile (blockVal0 V c t) (hidden w b X) (tile0 t) := by
  obtain ⟨et, -, -, -, e3, e4, -⟩ := index0 t
  unfold blockVal0 slabs0
  refine conv1Val_isTile (blocks0 h0 h1 h2 t) isDot0 (fun d o r => ?_) (fun k => ?_)
  · refine Eq.trans ?_ (h3 d o r)
    unfold iblk0
    blk_ext [e3]
  · rw [← hC k]
    unfold iblk0
    rw [h4]
    blk_ext [e4]

/-- The hidden layer. -/
theorem arr0_5 : (vdat0 V c).arrAt 5 cfg0.N = hidden w b X := by
  refine (vdat0 V c).arrAt_eq_of_covers 5 _ (by decide +kernel) fun t hf y => ?_
  blk_simp
  rw [vafter0_5]
  obtain ⟨et, -, -, -, -, -, e5, -⟩ := index0 t
  refine outAll_eq (planes0 h0 h1 h2 h3 h4 hC t) ?_
  refine ⟨?_, ?_, ?_, ?_⟩
  all_goals blk_simp [e5, tile0, et]
  all_goals omega

/-- The tiles' first planes. -/
theorem arr0_6 : (vdat0 V c).arrAt 6 cfg0.N = lowPlanes (hidden w b X) := by
  refine (vdat0 V c).arrAt_eq_of_covers 6 _ (by decide +kernel) fun t hf y => ?_
  blk_simp
  rw [vafter0_6]
  obtain ⟨et, -, -, -, -, -, -, e6, -⟩ := index0 t
  refine loAll_eq (planes0 h0 h1 h2 h3 h4 hC t) ?_
  refine ⟨?_, ?_, ?_, ?_⟩
  all_goals blk_simp [e6, tile0, et]
  all_goals omega

/-- The tiles' last planes. -/
theorem arr0_7 : (vdat0 V c).arrAt 7 cfg0.N = highPlanes (hidden w b X) := by
  refine (vdat0 V c).arrAt_eq_of_covers 7 _ (by decide +kernel) fun t hf y => ?_
  blk_simp
  rw [vafter0_7]
  obtain ⟨et, -, -, -, -, -, -, -, e7⟩ := index0 t
  refine hiAll_eq (planes0 h0 h1 h2 h3 h4 hC t) ?_
  refine ⟨?_, ?_, ?_, ?_⟩
  all_goals blk_simp [e7, tile0, et]
  all_goals omega
end

end Cert.KernelIdeal.Own
-- ==== Proof.Val1.lean ====
module

public import proofs.«01_k».proof.Proof.Tiling
public import proofs.«01_k».proof.Proof.Call1

/-!
# What the second call leaves

Entered with a volume, its planes at the tiles' ends and the packed weights, the call leaves the normalised filters.
-/

@[expose] public section

set_option maxRecDepth 16384

noncomputable section

namespace Cert.KernelIdeal.Own

open Cert.Own
open Cert.KernelIdeal Cert.KernelIdeal.Gen
open Idealize.ShloMosaic hiding ix1 ix2 ix3 ix4 ix5
open Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

/-- Where the blocks of the second call lie. -/
theorem index1 : ∀ t : Fin cfg1.N, (grid1.coords t 0).val = t.val
    ∧ win1_0.index t = ![0, t.val - 1, 0, 0] ∧ win1_1.index t = ![0, t.val, 0, 0]
    ∧ win1_2.index t = ![0, min (t.val + 1) 15, 0, 0] ∧ win1_3.index t = ![0, 0, 0] ∧ win1_4.index t = ![0, t.val, 0, 0] :=
  (by decide +kernel : ∀ t : Fin grid1.N, _)

/-- The tile's number. -/
abbrev tile1 (t : Fin cfg1.N) : Fin 16 := grid1.coords t 0

/-- The call's products contract the rows of a slot. -/
theorem isDot1 : IsDot dot_S27x72_S72x128x128_S27x128x128_1_0_0_12_n_n := by
  intro l r a o y x
  pointwise
  simp only [ix2_eq_valueIdx, ix3_eq_valueIdx]

section
variable {V} {c : Dev nD} {X : Vol 8} (h0 : V c (Pipeline.arrRef spec1 0) = highPlanes X)
  (h1 : V c (Pipeline.arrRef spec1 1) = X) (h2 : V c (Pipeline.arrRef spec1 2) = lowPlanes X)
include h0 h1 h2

/-- The blocks read are the tile's. -/
theorem blocks1 (t : Fin cfg1.N) : Blocks X (tile1 t) (iblk1 V c 0 t) (iblk1 V c 1 t) (iblk1 V c 2 t) := by
  obtain ⟨et, e0, e1, e2, -⟩ := index1 t
  unfold iblk1
  rw [h0, h1, h2]
  refine Blocks.of (tile1 t) (fun i => ?_) (fun i => ?_) (fun i => ?_)
  all_goals
    refine ⟨?_, ?_, ?_, ?_⟩
    all_goals blk_simp [e0, e1, e2, tile1, et]
  all_goals omega

variable {w : Wts 27} (h3 : IsPacked w (V c (Pipeline.arrRef spec1 3)))
include h3

/-- The planes computed are the filters'. -/
theorem planes1 (t : Fin cfg1.N) : IsFiltTile (blockVal1 V c t) (filters w X) (tile1 t) := by
  obtain ⟨et, -, -, -, e3, -⟩ := index1 t
  unfold blockVal1 slabs1
  refine conv2Val_isTile (blocks1 h0 h1 h2 t) isDot1 (fun d o r => ?_)
  refine Eq.trans ?_ (h3 d o r)
  unfold iblk1
  blk_ext [e3]

/-- The filters. -/
theorem arr1_4 : (vdat1 V c).arrAt 4 cfg1.N = filters w X := by
  refine (vdat1 V c).arrAt_eq_of_covers 4 _ (by decide +kernel) fun t hf y => ?_
  blk_simp
  rw [vafter1_4]
  obtain ⟨et, -, -, -, -, e4⟩ := index1 t
  refine filtAll_eq (planes1 h0 h1 h2 h3 t) ?_
  refine ⟨?_, ?_, ?_, ?_⟩
  all_goals blk_simp [e4, tile1, et]
  all_goals omega
end

end Cert.KernelIdeal.Own
-- ==== Proof.Val2.lean ====
module

public import proofs.«01_k».proof.Proof.Tiling
public import proofs.«01_k».proof.Proof.Call2

/-!
# What the third call leaves

Entered with a volume, its planes at the tiles' ends and the filters, the call leaves the adaptive convolution and its
planes at the tiles' ends.
-/

@[expose] public section

set_option maxRecDepth 16384

noncomputable section

namespace Cert.KernelIdeal.Own

open Cert.Own
open Cert.KernelIdeal Cert.KernelIdeal.Gen
open Idealize.ShloMosaic hiding ix1 ix2 ix3 ix4 ix5
open Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

/-- Where the blocks of the third call lie. -/
theorem index2 : ∀ t : Fin cfg2.N, (grid2.coords t 0).val = t.val
    ∧ win2_0.index t = ![0, t.val - 1, 0, 0] ∧ win2_1.index t = ![0, t.val, 0, 0]
    ∧ win2_2.index t = ![0, min (t.val + 1) 15, 0, 0] ∧ win2_3.index t = ![0, t.val, 0, 0]
    ∧ win2_4.index t = ![0, t.val, 0, 0] ∧ win2_5.index t = ![0, t.val, 0, 0] ∧ win2_6.index t = ![0, t.val, 0, 0] :=
  (by decide +kernel : ∀ t : Fin grid2.N, _)

/-- The tile's number. -/
abbrev tile2 (t : Fin cfg2.N) : Fin 16 := grid2.coords t 0

section
variable {V} {c : Dev nD} {X : Vol 8} (h0 : V c (Pipeline.arrRef spec2 0) = highPlanes X)
  (h1 : V c (Pipeline.arrRef spec2 1) = X) (h2 : V c (Pipeline.arrRef spec2 2) = lowPlanes X)
include h0 h1 h2

/-- The blocks read are the tile's. -/
theorem blocks2 (t : Fin cfg2.N) : Blocks X (tile2 t) (iblk2 V c 0 t) (iblk2 V c 1 t) (iblk2 V c 2 t) := by
  obtain ⟨et, e0, e1, e2, -⟩ := index2 t
  unfold iblk2
  rw [h0, h1, h2]
  refine Blocks.of (tile2 t) (fun i => ?_) (fun i => ?_) (fun i => ?_)
  all_goals
    refine ⟨?_, ?_, ?_, ?_⟩
    all_goals blk_simp [e0, e1, e2, tile2, et]
  all_goals omega

variable {G : Vol 27} (h3 : V c (Pipeline.arrRef spec2 3) = G)
include h3

/-- The planes computed are the adaptive convolution's. -/
theorem planes2 (t : Fin cfg2.N) : IsTile (blockVal2 V c t) (adapted G X) (tile2 t) := by
  intro z cc y x
  obtain ⟨et, -, -, -, e3, -⟩ := index2 t
  unfold blockVal2 slabs2
  refine adaptVal_apply (blocks2 h0 h1 h2 t) (G := G) (fun k z y x => ?_) z cc y x
  unfold iblk2
  rw [h3]
  refine read_liesAt G ?_ _
  refine ⟨?_, ?_, ?_, ?_⟩
  all_goals blk_simp [e3, tile2, et]
  all_goals omega

/-- The array of results. -/
theorem arr2_4 : (vdat2 V c).arrAt 4 cfg2.N = adapted G X := by
  refine (vdat2 V c).arrAt_eq_of_covers 4 _ (by decide +kernel) fun t hf y => ?_
  blk_simp
  rw [vafter2_4]
  obtain ⟨et, -, -, -, -, e4, -⟩ := index2 t
  refine outAll_eq (planes2 h0 h1 h2 h3 t) ?_
  refine ⟨?_, ?_, ?_, ?_⟩
  all_goals blk_simp [e4, tile2, et]
  all_goals omega

/-- The tiles' first planes. -/
theorem arr2_5 : (vdat2 V c).arrAt 5 cfg2.N = lowPlanes (adapted G X) := by
  refine (vdat2 V c).arrAt_eq_of_covers 5 _ (by decide +kernel) fun t hf y => ?_
  blk_simp
  rw [vafter2_5]
  obtain ⟨et, -, -, -, -, -, e5, -⟩ := index2 t
  refine loAll_eq (planes2 h0 h1 h2 h3 t) ?_
  refine ⟨?_, ?_, ?_, ?_⟩
  all_goals blk_simp [e5, tile2, et]
  all_goals omega

/-- The tiles' last planes. -/
theorem arr2_6 : (vdat2 V c).arrAt 6 cfg2.N = highPlanes (adapted G X) := by
  refine (vdat2 V c).arrAt_eq_of_covers 6 _ (by decide +kernel) fun t hf y => ?_
  blk_simp
  rw [vafter2_6]
  obtain ⟨et, -, -, -, -, -, -, e6⟩ := index2 t
  refine hiAll_eq (planes2 h0 h1 h2 h3 t) ?_
  refine ⟨?_, ?_, ?_, ?_⟩
  all_goals blk_simp [e6, tile2, et]
  all_goals omega
end

end Cert.KernelIdeal.Own
-- ==== Proof.Val3.lean ====
module

public import proofs.«01_k».proof.Proof.Tiling
public import proofs.«01_k».proof.Proof.Call3

/-!
# What the fourth call leaves

Entered with a volume, its planes at the tiles' ends and the filters, the call leaves the adaptive convolution and its
planes at the tiles' ends.
-/

@[expose] public section

set_option maxRecDepth 16384

noncomputable section

namespace Cert.KernelIdeal.Own

open Cert.Own
open Cert.KernelIdeal Cert.KernelIdeal.Gen
open Idealize.ShloMosaic hiding ix1 ix2 ix3 ix4 ix5
open Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

/-- Where the blocks of the fourth call lie. -/
theorem index3 : ∀ t : Fin cfg3.N, (grid3.coords t 0).val = t.val
    ∧ win3_0.index t = ![0, t.val - 1, 0, 0] ∧ win3_1.index t = ![0, t.val, 0, 0]
    ∧ win3_2.index t = ![0, min (t.val + 1) 15, 0, 0] ∧ win3_3.index t = ![0, t.val, 0, 0]
    ∧ win3_4.index t = ![0, t.val, 0, 0] ∧ win3_5.index t = ![0, t.val, 0, 0] ∧ win3_6.index t = ![0, t.val, 0, 0] :=
  (by decide +kernel : ∀ t : Fin grid3.N, _)

/-- The tile's number. -/
abbrev tile3 (t : Fin cfg3.N) : Fin 16 := grid3.coords t 0

section
variable {V} {c : Dev nD} {X : Vol 8} (h0 : V c (Pipeline.arrRef spec3 0) = highPlanes X)
  (h1 : V c (Pipeline.arrRef spec3 1) = X) (h2 : V c (Pipeline.arrRef spec3 2) = lowPlanes X)
include h0 h1 h2

/-- The blocks read are the tile's. -/
theorem blocks3 (t : Fin cfg3.N) : Blocks X (tile3 t) (iblk3 V c 0 t) (iblk3 V c 1 t) (iblk3 V c 2 t) := by
  obtain ⟨et, e0, e1, e2, -⟩ := index3 t
  unfold iblk3
  rw [h0, h1, h2]
  refine Blocks.of (tile3 t) (fun i => ?_) (fun i => ?_) (fun i => ?_)
  all_goals
    refine ⟨?_, ?_, ?_, ?_⟩
    all_goals blk_simp [e0, e1, e2, tile3, et]
  all_goals omega

variable {G : Vol 27} (h3 : V c (Pipeline.arrRef spec3 3) = G)
include h3

/-- The planes computed are the adaptive convolution's. -/
theorem planes3 (t : Fin cfg3.N) : IsTile (blockVal3 V c t) (adapted G X) (tile3 t) := by
  intro z cc y x
  obtain ⟨et, -, -, -, e3, -⟩ := index3 t
  unfold blockVal3 slabs3
  refine adaptVal_apply (blocks3 h0 h1 h2 t) (G := G) (fun k z y x => ?_) z cc y x
  unfold iblk3
  rw [h3]
  refine read_liesAt G ?_ _
  refine ⟨?_, ?_, ?_, ?_⟩
  all_goals blk_simp [e3, tile3, et]
  all_goals omega

/-- The array of results. -/
theorem arr3_4 : (vdat3 V c).arrAt 4 cfg3.N = adapted G X := by
  refine (vdat3 V c).arrAt_eq_of_covers 4 _ (by decide +kernel) fun t hf y => ?_
  blk_simp
  rw [vafter3_4]
  obtain ⟨et, -, -, -, -, e4, -⟩ := index3 t
  refine outAll_eq (planes3 h0 h1 h2 h3 t) ?_
  refine ⟨?_, ?_, ?_, ?_⟩
  all_goals blk_simp [e4, tile3, et]
  all_goals omega

/-- The tiles' first planes. -/
theorem arr3_5 : (vdat3 V c).arrAt 5 cfg3.N = lowPlanes (adapted G X) := by
  refine (vdat3 V c).arrAt_eq_of_covers 5 _ (by decide +kernel) fun t hf y => ?_
  blk_simp
  rw [vafter3_5]
  obtain ⟨et, -, -, -, -, -, e5, -⟩ := index3 t
  refine loAll_eq (planes3 h0 h1 h2 h3 t) ?_
  refine ⟨?_, ?_, ?_, ?_⟩
  all_goals blk_simp [e5, tile3, et]
  all_goals omega

/-- The tiles' last planes. -/
theorem arr3_6 : (vdat3 V c).arrAt 6 cfg3.N = highPlanes (adapted G X) := by
  refine (vdat3 V c).arrAt_eq_of_covers 6 _ (by decide +kernel) fun t hf y => ?_
  blk_simp
  rw [vafter3_6]
  obtain ⟨et, -, -, -, -, -, -, e6⟩ := index3 t
  refine hiAll_eq (planes3 h0 h1 h2 h3 t) ?_
  refine ⟨?_, ?_, ?_, ?_⟩
  all_goals blk_simp [e6, tile3, et]
  all_goals omega
end

end Cert.KernelIdeal.Own
-- ==== Proof.Val4.lean ====
module

public import proofs.«01_k».proof.Proof.Tiling
public import proofs.«01_k».proof.Proof.Call4

/-!
# What the fifth call leaves

Entered with a volume, its planes at the tiles' ends and the filters, the call leaves the adaptive convolution and its
planes at the tiles' ends.
-/

@[expose] public section

set_option maxRecDepth 16384

noncomputable section

namespace Cert.KernelIdeal.Own

open Cert.Own
open Cert.KernelIdeal Cert.KernelIdeal.Gen
open Idealize.ShloMosaic hiding ix1 ix2 ix3 ix4 ix5
open Idealize.ShloMosaic.ValueIdx Idealize.ShloMosaic.TcCoe
open Idealize.ShloMosaic.Pipeline (Dat Cfg Window)

variable (V : (c : Dev nD) → (b : Ref sig .tc) → Buf (Elt Ideal) ((c : Thread nD τ).loc b))

/-- Where the blocks of the fifth call lie. -/
theorem index4 : ∀ t : Fin cfg4.N, (grid4.coords t 0).val = t.val
    ∧ win4_0.index t = ![0, t.val - 1, 0, 0] ∧ win4_1.index t = ![0, t.val, 0, 0]
    ∧ win4_2.index t = ![0, min (t.val + 1) 15, 0, 0] ∧ win4_3.index t = ![0, t.val, 0, 0]
    ∧ win4_4.index t = ![0, t.val, 0, 0] ∧ win4_5.index t = ![0, t.val, 0, 0] ∧ win4_6.index t = ![0, t.val, 0, 0] :=
  (by decide +kernel : ∀ t : Fin grid4.N, _)

/-- The tile's number. -/
abbrev tile4 (t : Fin cfg4.N) : Fin 16 := grid4.coords t 0

section
variable {V} {c : Dev nD} {X : Vol 8} (h0 : V c (Pipeline.arrRef spec4 0) = highPlanes X)
  (h1 : V c (Pipeline.arrRef spec4 1) = X) (h2 : V c (Pipeline.arrRef spec4 2) = lowPlanes X)
include h0 h1 h2

/-- The blocks read are the tile's. -/
theorem blocks4 (t : Fin cfg4.N) : Blocks X (tile4 t) (iblk4 V c 0 t) (iblk4 V c 1 t) (iblk4 V c 2 t) := by
  obtain ⟨et, e0, e1, e2, -⟩ := index4 t
  unfold iblk4
  rw [h0, h1, h2]
  refine Blocks.of (tile4 t) (fun i => ?_) (fun i => ?_) (fun i => ?_)
  all_goals
    refine ⟨?_, ?_, ?_, ?_⟩
    all_goals blk_simp [e0, e1, e2, tile4, et]
  all_goals omega

variable {G : Vol 27} (h3 : V c (Pipeline.arrRef spec4 3) = G)
include h3

/-- The planes computed are the adaptive convolution's. -/
theorem planes4 (t : Fin cfg4.N) : IsTile (blockVal4 V c t) (adapted G X) (tile4 t) := by
  intro z cc y x
  obtain ⟨et, -, -, -, e3, -⟩ := index4 t
  unfold blockVal4 slabs4
  refine adaptVal_apply (blocks4 h0 h1 h2 t) (G := G) (fun k z y x => ?_) z cc y x
  unfold iblk4
  rw [h3]
  refine read_liesAt G ?_ _
  refine ⟨?_, ?_, ?_, ?_⟩
  all_goals blk_simp [e3, tile4, et]
  all_goals omega

/-- The array of results. -/
theorem arr4_4 : (vdat4 V c).arrAt 4 cfg4.N = adapted G X := by
  refine (vdat4 V c).arrAt_eq_of_covers 4 _ (by decide +kernel) fun t hf y => ?_
  blk_simp
  rw [vafter4_4]
  obtain ⟨et, -, -, -, -, e4, -⟩ := index4 t
  refine outAll_eq (planes4 h0 h1 h2 h3 t) ?_
  refine ⟨?_, ?_, ?_, ?_⟩
  all_goals blk_simp [e4, tile4, et]
  all_goals omega

/-- The tiles' first planes. -/
theorem arr4_5 : (vdat4 V c).arrAt 5 cfg4.N = lowPlanes (adapted G X) := by
  refine (vdat4 V c).arrAt_eq_of_covers 5 _ (by decide +kernel) fun t hf y => ?_
  blk_simp
  rw [vafter4_5]
  obtain ⟨et, -, -, -, -, -, e5, -⟩ := index4 t
  refine loAll_eq (planes4 h0 h1 h2 h3 t) ?_
  refine ⟨?_, ?_, ?_, ?_⟩
  all_goals blk_simp [e5, tile4, et]
  all_goals omega

/-- The tiles' last planes. -/
theorem arr4_6 : (vdat4 V c).arrAt 6 cfg4.N = highPlanes (adapted G X) := by
  refine (vdat4 V c).arrAt_eq_of_covers 6 _ (by decide +kernel) fun t hf y => ?_
  blk_simp
  rw [vafter4_6]
  obtain ⟨et, -, -, -, -, -, -, e6⟩ := index4 t
  refine hiAll_eq (planes4 h0 h1 h2 h3 t) ?_
  refine ⟨?_, ?_, ?_, ?_⟩
  all_goals blk_simp [e6, tile4, et]
  all_goals omega
end

end Cert.KernelIdeal.Own
-- ==== Proof.KernelValue.lean ====
module

public import proofs.«01_k».proof.Proof.Entry
public import proofs.«01_k».proof.Proof.Val0
public import proofs.«01_k».proof.Proof.Val1
public import proofs.«01_k».proof.Proof.Val2
public import proofs.«01_k».proof.Proof.Val3
public import proofs.«01_k».proof.Proof.Val4
public import proofs.«01_k».proof.Proof.Whole

/-!
# What the kernel's result holds

The calls' arrays followed through the program: the result is the problem's function of the arguments.
-/

@[expose] public section

set_option maxRecDepth 16384

noncomputable section

namespace Cert.KernelIdeal.Own

open Cert.Own
open Cert.KernelIdeal Cert.KernelIdeal.Gen
open Idealize.ShloMosaic hiding ix1 ix2 ix3 ix4 ix5 eq_ix4
open Idealize.ShloMosaic.ValueIdx Idealize.ShloMosaic.TcCoe

variable (m : (ℓ : Loc nD τ sig) → Buf (Elt Ideal) ℓ) (ρ : Dev nD → PrngReg) (c : Dev nD)

/-- The first convolution's weights. -/
abbrev wts1 : Wts 8 := m ((c : Thread nD τ).loc main_arg1)
/-- The bias. -/
abbrev bias1 : (⟨1, ![8]⟩ : Shape).Idx → EReal := m ((c : Thread nD τ).loc main_arg2)
/-- The second convolution's weights. -/
abbrev wts2 : Wts 27 := m ((c : Thread nD τ).loc main_arg3)
/-- The hidden layer of the arguments. -/
def hid : Vol 8 := hidden (wts1 m c) (bias1 m c) (inVol m c)
/-- The filters of the arguments. -/
def filt : Vol 27 := filters (wts2 m c) (hid m c)

/-- After the first call: the hidden layer. -/
theorem W2_h : W2 m ρ c (Proc.devRef .tc main_v10_0) = hid m c :=
  (W2_arr m ρ c 5).trans (arr0_5 (V := V1 m ρ) (W1_main_v2 m ρ c) (W1_main_v0 m ρ c) (W1_main_v1 m ρ c) (W1_main_v5 m ρ c) rfl (W1_main_v9 m ρ c))
/-- … its tiles' first planes. -/
theorem W2_hlo : W2 m ρ c (Proc.devRef .tc main_v10_1) = lowPlanes (hid m c) :=
  (W2_arr m ρ c 6).trans (arr0_6 (V := V1 m ρ) (W1_main_v2 m ρ c) (W1_main_v0 m ρ c) (W1_main_v1 m ρ c) (W1_main_v5 m ρ c) rfl (W1_main_v9 m ρ c))
/-- … its tiles' last planes. -/
theorem W2_hhi : W2 m ρ c (Proc.devRef .tc main_v10_2) = highPlanes (hid m c) :=
  (W2_arr m ρ c 7).trans (arr0_7 (V := V1 m ρ) (W1_main_v2 m ρ c) (W1_main_v0 m ρ c) (W1_main_v1 m ρ c) (W1_main_v5 m ρ c) rfl (W1_main_v9 m ρ c))
/-- … the second convolution's weights as before. -/
theorem W2_w2 : IsPacked (wts2 m c) (W2 m ρ c (Proc.devRef .tc main_v8)) := by
  rw [W2_of m ρ c main_v8 (by decide)]
  exact W1_main_v8 m ρ c

/-- After the second call: the filters. -/
theorem W3_filt : W3 m ρ c (Proc.devRef .tc main_v11) = filt m c :=
  (W3_arr m ρ c 4).trans (arr1_4 (V := V2 m ρ) (W2_hhi m ρ c) (W2_h m ρ c) (W2_hlo m ρ c) (W2_w2 m ρ c))
/-- … the input as before. -/
theorem W3_of_W1 (r : Ref sig .tc) (h0 : ∀ w : Fin cfg0.W, Pipeline.arrRef spec0 w = r → (cfg0.win w).isOut = false)
    (h1 : ∀ w : Fin cfg1.W, Pipeline.arrRef spec1 w = r → (cfg1.win w).isOut = false) :
    W3 m ρ c (Proc.devRef .tc r) = W1 m ρ c (Proc.devRef .tc r) := (W3_of m ρ c r h1).trans (W2_of m ρ c r h0)
theorem W3_x : W3 m ρ c (Proc.devRef .tc main_v0) = inVol m c :=
  (W3_of_W1 m ρ c main_v0 (by decide) (by decide)).trans (W1_main_v0 m ρ c)
theorem W3_xlo : W3 m ρ c (Proc.devRef .tc main_v1) = lowPlanes (inVol m c) :=
  (W3_of_W1 m ρ c main_v1 (by decide) (by decide)).trans (W1_main_v1 m ρ c)
theorem W3_xhi : W3 m ρ c (Proc.devRef .tc main_v2) = highPlanes (inVol m c) :=
  (W3_of_W1 m ρ c main_v2 (by decide) (by decide)).trans (W1_main_v2 m ρ c)

/-- The volume after one adaptive convolution. -/
def once : Vol 8 := adapted (filt m c) (inVol m c)
/-- The volume after two. -/
def twice : Vol 8 := adapted (filt m c) (once m c)
/-- The volume after three. -/
def thrice : Vol 8 := adapted (filt m c) (twice m c)

/-- After the third call. -/
theorem W4_x : W4 m ρ c (Proc.devRef .tc main_v12_0) = once m c :=
  (W4_arr m ρ c 4).trans (arr2_4 (V := V3 m ρ) (W3_xhi m ρ c) (W3_x m ρ c) (W3_xlo m ρ c) (W3_filt m ρ c))
theorem W4_xlo : W4 m ρ c (Proc.devRef .tc main_v12_1) = lowPlanes (once m c) :=
  (W4_arr m ρ c 5).trans (arr2_5 (V := V3 m ρ) (W3_xhi m ρ c) (W3_x m ρ c) (W3_xlo m ρ c) (W3_filt m ρ c))
theorem W4_xhi : W4 m ρ c (Proc.devRef .tc main_v12_2) = highPlanes (once m c) :=
  (W4_arr m ρ c 6).trans (arr2_6 (V := V3 m ρ) (W3_xhi m ρ c) (W3_x m ρ c) (W3_xlo m ρ c) (W3_filt m ρ c))
theorem W4_filt : W4 m ρ c (Proc.devRef .tc main_v11) = filt m c :=
  (W4_of m ρ c main_v11 (by decide)).trans (W3_filt m ρ c)

/-- After the fourth call. -/
theorem W5_x : W5 m ρ c (Proc.devRef .tc main_v13_0) = twice m c :=
  (W5_arr m ρ c 4).trans (arr3_4 (V := V4 m ρ) (W4_xhi m ρ c) (W4_x m ρ c) (W4_xlo m ρ c) (W4_filt m ρ c))
theorem W5_xlo : W5 m ρ c (Proc.devRef .tc main_v13_1) = lowPlanes (twice m c) :=
  (W5_arr m ρ c 5).trans (arr3_5 (V := V4 m ρ) (W4_xhi m ρ c) (W4_x m ρ c) (W4_xlo m ρ c) (W4_filt m ρ c))
theorem W5_xhi : W5 m ρ c (Proc.devRef .tc main_v13_2) = highPlanes (twice m c) :=
  (W5_arr m ρ c 6).trans (arr3_6 (V := V4 m ρ) (W4_xhi m ρ c) (W4_x m ρ c) (W4_xlo m ρ c) (W4_filt m ρ c))
theorem W5_filt : W5 m ρ c (Proc.devRef .tc main_v11) = filt m c :=
  (W5_of m ρ c main_v11 (by decide)).trans (W4_filt m ρ c)

/-- After the fifth call. -/
theorem W6_x : W6 m ρ c (Proc.devRef .tc main_v14_0) = thrice m c :=
  (W6_arr m ρ c 4).trans (arr4_4 (V := V5 m ρ) (W5_xhi m ρ c) (W5_x m ρ c) (W5_xlo m ρ c) (W5_filt m ρ c))

/-- The result, at its coordinates. -/
theorem W7_result (k : Fin 8) (z y x : Fin 128) :
    (W7 m ρ c (Proc.devRef .tc main_v15) : FVec Ideal S1x8x128x128x128 .f32) (ix5 0 k z y x)
      = result (inVol m c) (wts1 m c) (bias1 m c) (wts2 m c) (ix4 k z y x) := by
  unfold W7 hostOps5
  after_reads_at
  rw [W6_x, ix4_eq_valueIdx]
  rfl

end Cert.KernelIdeal.Own
-- ==== Proof.RefRead.lean ====
module

public import proofs.«01_k».proof.Proof.Spec
public import proofs.«01_k».proof.Proof.Gen.ReferenceIdeal.Run
public import Idealize.ShloMosaic.Lib.Pointwise
public import Idealize.ShloMosaic.Lib.IdealHost

/-!
# The reference's operations, read at an index

The neighbours of a volume, the contraction with all taps and channels, and the sum over the taps.
-/

@[expose] public section

set_option maxRecDepth 16384

noncomputable section

namespace Cert.ReferenceIdeal.Own

open Cert.Own
open Cert.ReferenceIdeal Cert.ReferenceIdeal.Gen
open Idealize.ShloMosaic hiding ix1 ix2 ix3 ix4 ix5 eq_ix4
open Idealize.ShloMosaic.ValueIdx hiding ix6
open Idealize.ShloMosaic.TcCoe

/-! ## The neighbours -/

/-- The volume with a zero voxel on every side. -/
def edged (X : FVec Ideal S8x128x128x128 .f32) : FVec Ideal S8x130x130x130 .f32 :=
  pad S8x130x130x130 ![0, 1, 1, 1] ![0, 1, 1, 1] ![0, 0, 0, 0] X (sitofp .f32 (constantI S_ 32 0#32))
    pads_S8x128x128x128_S8x130x130x130_000_110_110_110 h_S_

/-- The three shifts along the last axis. -/
def alongX (P : FVec Ideal S8x130x130x130 .f32) : FVec Ideal S3x8x130x130x128 .f32 :=
  concatenate S3x8x130x130x128 0
    [⟨S1x8x130x130x128, broadcastInDim S1x8x130x130x128 ![1, 2, 3, 4] bcast_S8x130x130x128_S1x8x130x130x128_1_2_3_4
        (extractStridedSlice S8x130x130x128 ![0, 0, 0, 0] P slices_S8x130x130x130_S8x130x130x128_0_0_0_0)⟩,
      ⟨S1x8x130x130x128, broadcastInDim S1x8x130x130x128 ![1, 2, 3, 4] bcast_S8x130x130x128_S1x8x130x130x128_1_2_3_4
        (extractStridedSlice S8x130x130x128 ![0, 0, 0, 1] P slices_S8x130x130x130_S8x130x130x128_0_0_0_1)⟩,
      ⟨S1x8x130x130x128, broadcastInDim S1x8x130x130x128 ![1, 2, 3, 4] bcast_S8x130x130x128_S1x8x130x130x128_1_2_3_4
        (extractStridedSlice S8x130x130x128 ![0, 0, 0, 2] P slices_S8x130x130x130_S8x130x130x128_0_0_0_2)⟩]
    concatenates_S1x8x130x130x128_S1x8x130x130x128_S1x8x130x130x128_S3x8x130x130x128_d0

/-- The three shifts of those along the axis before. -/
def alongY (P : FVec Ideal S3x8x130x130x128 .f32) : FVec Ideal S3x3x8x130x128x128 .f32 :=
  concatenate S3x3x8x130x128x128 0
    [⟨S1x3x8x130x128x128, broadcastInDim S1x3x8x130x128x128 ![1, 2, 3, 4, 5] bcast_S3x8x130x128x128_S1x3x8x130x128x128_1_2_3_4_5
        (extractStridedSlice S3x8x130x128x128 ![0, 0, 0, 0, 0] P slices_S3x8x130x130x128_S3x8x130x128x128_0_0_0_0_0)⟩,
      ⟨S1x3x8x130x128x128, broadcastInDim S1x3x8x130x128x128 ![1, 2, 3, 4, 5] bcast_S3x8x130x128x128_S1x3x8x130x128x128_1_2_3_4_5
        (extractStridedSlice S3x8x130x128x128 ![0, 0, 0, 1, 0] P slices_S3x8x130x130x128_S3x8x130x128x128_0_0_0_1_0)⟩,
      ⟨S1x3x8x130x128x128, broadcastInDim S1x3x8x130x128x128 ![1, 2, 3, 4, 5] bcast_S3x8x130x128x128_S1x3x8x130x128x128_1_2_3_4_5
        (extractStridedSlice S3x8x130x128x128 ![0, 0, 0, 2, 0] P slices_S3x8x130x130x128_S3x8x130x128x128_0_0_0_2_0)⟩]
    concatenates_S1x3x8x130x128x128_S1x3x8x130x128x128_S1x3x8x130x128x128_S3x3x8x130x128x128_d0

/-- The three shifts of those along the planes. -/
def alongZ (P : FVec Ideal S3x3x8x130x128x128 .f32) : FVec Ideal S3x3x3x8x128x128x128 .f32 :=
  concatenate S3x3x3x8x128x128x128 0
    [⟨S1x3x3x8x128x128x128, broadcastInDim S1x3x3x8x128x128x128 ![1, 2, 3, 4, 5, 6]
        bcast_S3x3x8x128x128x128_S1x3x3x8x128x128x128_1_2_3_4_5_6
        (extractStridedSlice S3x3x8x128x128x128 ![0, 0, 0, 0, 0, 0] P slices_S3x3x8x130x128x128_S3x3x8x128x128x128_0_0_0_0_0_0)⟩,
      ⟨S1x3x3x8x128x128x128, broadcastInDim S1x3x3x8x128x128x128 ![1, 2, 3, 4, 5, 6]
        bcast_S3x3x8x128x128x128_S1x3x3x8x128x128x128_1_2_3_4_5_6
        (extractStridedSlice S3x3x8x128x128x128 ![0, 0, 0, 1, 0, 0] P slices_S3x3x8x130x128x128_S3x3x8x128x128x128_0_0_0_1_0_0)⟩,
      ⟨S1x3x3x8x128x128x128, broadcastInDim S1x3x3x8x128x128x128 ![1, 2, 3, 4, 5, 6]
        bcast_S3x3x8x128x128x128_S1x3x3x8x128x128x128_1_2_3_4_5_6
        (extractStridedSlice S3x3x8x128x128x128 ![0, 0, 0, 2, 0, 0] P slices_S3x3x8x130x128x128_S3x3x8x128x128x128_0_0_0_2_0_0)⟩]
    concatenates_S1x3x3x8x128x128x128_S1x3x3x8x128x128x128_S1x3x3x8x128x128x128_S3x3x3x8x128x128x128_d0

/-- The neighbours of every voxel. -/
def around (X : FVec Ideal S8x128x128x128 .f32) : FVec Ideal S3x3x3x8x128x128x128 .f32 :=
  alongZ (alongY (alongX (edged X)))

/-- The volume with its edges, at an index. -/
theorem edged_apply (X : FVec Ideal S8x128x128x128 .f32) (c : Fin 8) (p q r : Fin 130) :
    edged X (ix4 c p q r) = padAt X c p q r := by
  unfold edged padAt
  rw [← ix4_eq_valueIdx]
  pointwise
  have h0 : (FloatOps.sitofp (F := Ideal) FTy.f32 (0#32 : BitVec 32)) = 0 := by
    show ((((0#32 : BitVec 32).toInt : ℝ)) : EReal) = 0
    simp
  have he : ((1 ≤ p.val ∧ p.val - 1 < 128) ∧ (1 ≤ q.val ∧ q.val - 1 < 128) ∧ 1 ≤ r.val ∧ r.val - 1 < 128)
      ↔ (Inside p ∧ Inside q ∧ Inside r) := by
    unfold Inside
    omega
  by_cases h : Inside p ∧ Inside q ∧ Inside r
  · rw [dif_pos (he.mpr h), dif_pos h, ← ix4_eq_valueIdx]
  · rw [dif_neg (fun h' => h (he.mp h')), dif_neg h, h0]

/-- A shift along the last axis, at an index. -/
theorem alongX_apply (P : FVec Ideal S8x130x130x130 .f32) (k : Fin 3) (c : Fin 8) (p q : Fin 130) (x : Fin 128) :
    alongX P (ix5 k c p q x) = P (ix4 c p q ⟨x + k, by omega⟩) := by
  unfold alongX
  rw [← ix4_eq_valueIdx, ← ix5_eq_valueIdx]
  pointwise
  split_ifs <;>
    exact congrArg P (ix4_inj _ _ _ _ _ _ _ _ |>.mpr ⟨rfl, rfl, rfl, Fin.mk.inj_iff.mpr (by omega)⟩)

/-- A shift along the axis before, at an index. -/
theorem alongY_apply (P : FVec Ideal S3x8x130x130x128 .f32) (j k : Fin 3) (c : Fin 8) (p : Fin 130) (y x : Fin 128) :
    alongY P (ix6 j k c p y x) = P (ix5 k c p ⟨y + j, by omega⟩ x) := by
  unfold alongY
  rw [← ix5_eq_valueIdx]
  pointwise
  split_ifs <;>
    exact congrArg P (ix5_inj _ _ _ _ _ _ _ _ _ _ |>.mpr ⟨rfl, rfl, rfl, Fin.mk.inj_iff.mpr (by omega), rfl⟩)

/-- A shift along the planes, at an index. -/
theorem alongZ_apply (P : FVec Ideal S3x3x8x130x128x128 .f32) (i j k : Fin 3) (c : Fin 8) (z y x : Fin 128) :
    alongZ P (ix7 i j k c z y x) = P (ix6 j k c ⟨z + i, by omega⟩ y x) := by
  unfold alongZ
  pointwise
  split_ifs <;>
    exact congrArg P (ix6_inj _ _ _ _ _ _ _ _ _ _ _ _ |>.mpr
      ⟨rfl, rfl, rfl, Fin.mk.inj_iff.mpr (by omega), rfl, rfl⟩)

/-- The neighbours, at an index. -/
theorem around_apply (X : FVec Ideal S8x128x128x128 .f32) (i j k : Fin 3) (c : Fin 8) (z y x : Fin 128) :
    around X (ix7 i j k c z y x) = padAt X c (z + i) (y + j) (x + k) := by
  unfold around
  rw [alongZ_apply, alongY_apply, alongX_apply, edged_apply]

end Cert.ReferenceIdeal.Own
-- ==== Proof.RefSum.lean ====
module

public import proofs.«01_k».proof.Proof.Spec
public import proofs.«01_k».proof.Proof.Gen.ReferenceIdeal.Run
public import Idealize.ShloMosaic.Lib.Pointwise
public import Idealize.ShloMosaic.Lib.IdealHost

/-!
# The reference's sums

The contraction with all taps and channels, and the sum over the taps, as sums over their coordinates.
-/

@[expose] public section

set_option maxRecDepth 16384

noncomputable section

namespace Cert.ReferenceIdeal.Own

open Cert.Own
open Cert.ReferenceIdeal Cert.ReferenceIdeal.Gen
open Idealize.ShloMosaic hiding ix1 ix2 ix3 ix4 ix5 eq_ix4
open Idealize.ShloMosaic.ValueIdx hiding ix6
open Idealize.ShloMosaic.TcCoe

/-- The sum over the channels may be taken innermost. -/
theorem taps_first (f : Fin 8 → Fin 3 → Fin 3 → Fin 3 → EReal) :
    ∑ c, ∑ i, ∑ j, ∑ k, f c i j k = ∑ i, ∑ j, ∑ k, ∑ c, f c i j k := by
  rw [Finset.sum_comm]
  refine Finset.sum_congr rfl fun i _ => ?_
  rw [Finset.sum_comm]
  refine Finset.sum_congr rfl fun j _ => ?_
  rw [Finset.sum_comm]

/-- The sum over the first three of seven axes is the sum over their coordinates. -/
theorem sumTaps (V : FVec Ideal S3x3x3x8x128x128x128 .f32) (c : Fin 8) (z y x : Fin 128) :
    (Host.reduceAdd V (constant S_ .f32 0x00000000#32) reducesTo_S3x3x3x8x128x128x128_S8x128x128x128_d0_1_2 h_S_ :
      FVec Ideal S8x128x128x128 .f32) (ix4 c z y x) = ∑ i : Fin 3, ∑ j : Fin 3, ∑ k : Fin 3, V (ix7 i j k c z y x) := by
  have hd (i j k : Fin 3) (c' : Fin 8) (z' y' x' : Fin 128) :
      (reducesTo_S3x3x3x8x128x128x128_S8x128x128x128_d0_1_2).drop (ix7 i j k c' z' y' x') = ix4 c' z' y' x' := by
    funext a
    match a with
    | ⟨0, _⟩ => rfl
    | ⟨1, _⟩ => rfl
    | ⟨2, _⟩ => rfl
    | ⟨3, _⟩ => rfl
  rw [hostReduceAdd_apply]
  show Ideal.ofBits .f32 0#32 + _ = _
  rw [Ideal.ofBits_zero_f32, zero_add]
  show ∑ i ∈ Finset.univ.filter (fun i => (reducesTo_S3x3x3x8x128x128x128_S8x128x128x128_d0_1_2).drop i = ix4 c z y x), V i = _
  rw [Finset.sum_filter]
  refine (sum_idx7 _).trans ?_
  simp only [hd, ← ix4_eq_valueIdx, ix4_inj, ite_and, Finset.sum_ite_irrel, Finset.sum_const_zero, Finset.sum_ite_eq',
    Finset.mem_univ, if_true]

/-- A contraction coordinate of the first convolution. -/
def contr1 : (Fin 8 × Fin 3 × Fin 3 × Fin 3) ≃ dot_S8x8x3x3x3_S3x3x3x8x128x128x128_S8x128x128x128_1234_3012_0_456_n_n.contr.Idx where
  toFun p := fun a => match a with
    | ⟨0, _⟩ => p.1
    | ⟨1, _⟩ => p.2.1
    | ⟨2, _⟩ => p.2.2.1
    | ⟨3, _⟩ => p.2.2.2
  invFun f := (f ⟨0, by decide⟩, f ⟨1, by decide⟩, f ⟨2, by decide⟩, f ⟨3, by decide⟩)
  left_inv p := rfl
  right_inv f := by
    funext a
    match a with
    | ⟨0, _⟩ => rfl
    | ⟨1, _⟩ => rfl
    | ⟨2, _⟩ => rfl
    | ⟨3, _⟩ => rfl

/-- The first convolution's contraction is the sum over taps and channels. -/
theorem dot1 (w : FVec Ideal S8x8x3x3x3 .f32) (V : FVec Ideal S3x3x3x8x128x128x128 .f32) (o : Fin 8) (z y x : Fin 128) :
    (Host.dotGeneral dot_S8x8x3x3x3_S3x3x3x8x128x128x128_S8x128x128x128_1234_3012_0_456_n_n none w V :
      FVec Ideal S8x128x128x128 .f32) (ix4 o z y x)
      = ∑ i : Fin 3, ∑ j : Fin 3, ∑ k : Fin 3, ∑ c : Fin 8, w (ix5 o c i j k) * V (ix7 i j k c z y x) := by
  refine (Ideal.dotGeneral_apply _ _ _ _ _ _).trans ?_
  rw [← contr1.sum_comp]
  have hl (p : Fin 8 × Fin 3 × Fin 3 × Fin 3) : DotDims.lhsIdx
      dot_S8x8x3x3x3_S3x3x3x8x128x128x128_S8x128x128x128_1234_3012_0_456_n_n (ix4 o z y x) (contr1 p)
        = ix5 o p.1 p.2.1 p.2.2.1 p.2.2.2 := by
    funext a
    match a with
    | ⟨0, _⟩ => rfl
    | ⟨1, _⟩ => rfl
    | ⟨2, _⟩ => rfl
    | ⟨3, _⟩ => rfl
    | ⟨4, _⟩ => rfl
  have hr (p : Fin 8 × Fin 3 × Fin 3 × Fin 3) : DotDims.rhsIdx
      dot_S8x8x3x3x3_S3x3x3x8x128x128x128_S8x128x128x128_1234_3012_0_456_n_n (ix4 o z y x) (contr1 p)
        = ix7 p.2.1 p.2.2.1 p.2.2.2 p.1 z y x := by
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  simp only [hl, hr, Fintype.sum_prod_type]
  exact taps_first fun c i j k => w (ix5 o c i j k) * V (ix7 i j k c z y x)

/-- A contraction coordinate of the second convolution. -/
def contr2 : (Fin 8 × Fin 3 × Fin 3 × Fin 3) ≃ dot_S27x8x3x3x3_S3x3x3x8x128x128x128_S27x128x128x128_1234_3012_0_456_n_n.contr.Idx where
  toFun p := fun a => match a with
    | ⟨0, _⟩ => p.1
    | ⟨1, _⟩ => p.2.1
    | ⟨2, _⟩ => p.2.2.1
    | ⟨3, _⟩ => p.2.2.2
  invFun f := (f ⟨0, by decide⟩, f ⟨1, by decide⟩, f ⟨2, by decide⟩, f ⟨3, by decide⟩)
  left_inv p := rfl
  right_inv f := by
    funext a
    match a with
    | ⟨0, _⟩ => rfl
    | ⟨1, _⟩ => rfl
    | ⟨2, _⟩ => rfl
    | ⟨3, _⟩ => rfl

/-- The second convolution's contraction is the sum over taps and channels. -/
theorem dot2 (w : FVec Ideal S27x8x3x3x3 .f32) (V : FVec Ideal S3x3x3x8x128x128x128 .f32) (o : Fin 27) (z y x : Fin 128) :
    (Host.dotGeneral dot_S27x8x3x3x3_S3x3x3x8x128x128x128_S27x128x128x128_1234_3012_0_456_n_n none w V :
      FVec Ideal S27x128x128x128 .f32) (ix4 o z y x)
      = ∑ i : Fin 3, ∑ j : Fin 3, ∑ k : Fin 3, ∑ c : Fin 8, w (ix5 o c i j k) * V (ix7 i j k c z y x) := by
  refine (Ideal.dotGeneral_apply _ _ _ _ _ _).trans ?_
  rw [← contr2.sum_comp]
  have hl (p : Fin 8 × Fin 3 × Fin 3 × Fin 3) : DotDims.lhsIdx
      dot_S27x8x3x3x3_S3x3x3x8x128x128x128_S27x128x128x128_1234_3012_0_456_n_n (ix4 o z y x) (contr2 p)
        = ix5 o p.1 p.2.1 p.2.2.1 p.2.2.2 := by
    funext a
    match a with
    | ⟨0, _⟩ => rfl
    | ⟨1, _⟩ => rfl
    | ⟨2, _⟩ => rfl
    | ⟨3, _⟩ => rfl
    | ⟨4, _⟩ => rfl
  have hr (p : Fin 8 × Fin 3 × Fin 3 × Fin 3) : DotDims.rhsIdx
      dot_S27x8x3x3x3_S3x3x3x8x128x128x128_S27x128x128x128_1234_3012_0_456_n_n (ix4 o z y x) (contr2 p)
        = ix7 p.2.1 p.2.2.1 p.2.2.2 p.1 z y x := by
    funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  simp only [hl, hr, Fintype.sum_prod_type]
  exact taps_first fun c i j k => w (ix5 o c i j k) * V (ix7 i j k c z y x)

end Cert.ReferenceIdeal.Own
-- ==== Proof.RefVal.lean ====
module

public import proofs.«01_k».proof.Proof.RefRead
public import proofs.«01_k».proof.Proof.RefSum
public import proofs.«01_k».proof.Proof.TileVal

/-!
# The reference's value

The reference's layers, as the mathematics written down in `Spec`.
-/

@[expose] public section

set_option maxRecDepth 16384

noncomputable section

namespace Cert.ReferenceIdeal.Own

open Cert.Own
open Cert.ReferenceIdeal Cert.ReferenceIdeal.Gen Cert.ReferenceIdeal.Value
open Idealize.ShloMosaic hiding ix1 ix2 ix3 ix4 ix5 eq_ix4
open Idealize.ShloMosaic.ValueIdx hiding ix6
open Idealize.ShloMosaic.TcCoe

/-- The hidden layer as the reference computes it. -/
def hid (X : FVec Ideal S8x128x128x128 .f32) (w : FVec Ideal S8x8x3x3x3 .f32) (b : FVec Ideal S8 .f32) :
    FVec Ideal S8x128x128x128 .f32 :=
  maximumf (addf (Host.dotGeneral dot_S8x8x3x3x3_S3x3x3x8x128x128x128_S8x128x128x128_1234_3012_0_456_n_n none w (around X))
      (broadcastInDim S8x128x128x128 ![0, 1, 2, 3] bcast_S8x1x1x1_S8x128x128x128_0_1_2_3
        (broadcastInDim S8x1x1x1 ![0] bcast_S8_S8x1x1x1_0 b)))
    (broadcastInDim S8x128x128x128 ![] bcast_S_S8x128x128x128 (constant S_ .f32 0x00000000#32))

/-- The second convolution as the reference computes it. -/
def conv (H : FVec Ideal S8x128x128x128 .f32) (w : FVec Ideal S27x8x3x3x3 .f32) : FVec Ideal S27x128x128x128 .f32 :=
  Host.dotGeneral dot_S27x8x3x3x3_S3x3x3x8x128x128x128_S27x128x128x128_1234_3012_0_456_n_n none w (around H)

/-- The normalisation as the reference computes it. -/
def normal (V : FVec Ideal S27x128x128x128 .f32) : FVec Ideal S27x128x128x128 .f32 :=
  Host.divf V (broadcastInDim S27x128x128x128 ![0, 1, 2, 3] bcast_S1x128x128x128_S27x128x128x128_0_1_2_3
    (maximumf (broadcastInDim S1x128x128x128 ![1, 2, 3] bcast_S128x128x128_S1x128x128x128_1_2_3
        (Host.reduceAdd (Host.absf V) (constant S_ .f32 0x00000000#32) reducesTo_S27x128x128x128_S128x128x128_d0 h_S_))
      (broadcastInDim S1x128x128x128 ![] bcast_S_S1x128x128x128 (constant S_ .f32 0x2B8CBCCC#32))))

/-- The adaptive convolution as the reference computes it. -/
def adapt (X : FVec Ideal S8x128x128x128 .f32) (W : FVec Ideal S27x128x128x128 .f32) : FVec Ideal S8x128x128x128 .f32 :=
  Host.reduceAdd (mulf (around X) (broadcastInDim S3x3x3x8x128x128x128 ![0, 1, 2, 3, 4, 5, 6]
      bcast_S3x3x3x1x128x128x128_S3x3x3x8x128x128x128_0_1_2_3_4_5_6
      (shapeCast _ W shapeCasts_S27x128x128x128_S3x3x3x1x128x128x128)))
    (constant S_ .f32 0x00000000#32) reducesTo_S3x3x3x8x128x128x128_S8x128x128x128_d0_1_2 h_S_

/-- The hidden layer is the convolution's positive part. -/
theorem hid_eq (X : FVec Ideal S8x128x128x128 .f32) (w : FVec Ideal S8x8x3x3x3 .f32) (b : FVec Ideal S8 .f32) :
    hid X w b = hidden w b X := by
  apply ext4
  intro o z y x
  have hd : (Host.dotGeneral dot_S8x8x3x3x3_S3x3x3x8x128x128x128_S8x128x128x128_1234_3012_0_456_n_n none w (around X) :
      FVec Ideal S8x128x128x128 .f32) (ix4 o z y x) = convAt w X o z y x := by
    refine (dot1 w (around X) o z y x).trans ?_
    simp only [around_apply]
    rfl
  show _ = max (convAt w X o z y x + b (ix1 o)) 0
  rw [← hd]
  unfold hid
  generalize (Host.dotGeneral dot_S8x8x3x3x3_S3x3x3x8x128x128x128_S8x128x128x128_1234_3012_0_456_n_n none w (around X) :
      FVec Ideal S8x128x128x128 .f32) = D
  rw [← ix4_eq_valueIdx, ← ix1_eq_valueIdx]
  pointwise

/-- The second convolution is the convolution. -/
theorem conv_apply (H : FVec Ideal S8x128x128x128 .f32) (w : FVec Ideal S27x8x3x3x3 .f32) (o : Fin 27) (z y x : Fin 128) :
    conv H w (ix4 o z y x) = convAt w H o z y x := by
  refine (dot2 w (around H) o z y x).trans ?_
  simp only [around_apply]
  rfl

/-- The normalisation divides by the sum of absolute values. -/
theorem normal_apply (V : FVec Ideal S27x128x128x128 .f32) (o : Fin 27) (z y x : Fin 128) :
    normal V (ix4 o z y x)
      = Ideal.div (V (ix4 o z y x)) (max (∑ t : Fin 27, max (V (ix4 t z y x)) (-(V (ix4 t z y x)))) tiny) := by
  unfold normal tiny
  simp only [← ix4_eq_valueIdx]
  pointwise
  rfl

/-- The filters. -/
theorem filters_eq (H : FVec Ideal S8x128x128x128 .f32) (w : FVec Ideal S27x8x3x3x3 .f32) :
    normal (conv H w) = filters w H := by
  apply ext4
  intro o z y x
  rw [normal_apply]
  simp only [conv_apply]
  rfl

/-- The filters laid out by tap coordinates, at an index. -/
theorem taps_apply (W : FVec Ideal S27x128x128x128 .f32) (i j k : Fin 3) (c : Fin 8) (z y x : Fin 128) :
    (broadcastInDim S3x3x3x8x128x128x128 ![0, 1, 2, 3, 4, 5, 6]
      bcast_S3x3x3x1x128x128x128_S3x3x3x8x128x128x128_0_1_2_3_4_5_6
      (shapeCast _ W shapeCasts_S27x128x128x128_S3x3x3x1x128x128x128) : FVec Ideal S3x3x3x8x128x128x128 .f32)
      (ix7 i j k c z y x) = W (ix4 (tapOf i j k) z y x) := by
  rw [← ix4_eq_valueIdx]
  pointwise
  exact congrArg W (ix4_inj _ _ _ _ _ _ _ _ |>.mpr ⟨Fin.mk.inj_iff.mpr (by omega), rfl, rfl, rfl⟩)

/-- The adaptive convolution. -/
theorem adapt_eq (X : FVec Ideal S8x128x128x128 .f32) (W : FVec Ideal S27x128x128x128 .f32) : adapt X W = adapted W X := by
  apply ext4
  intro c z y x
  refine (sumTaps _ c z y x).trans ?_
  show _ = ∑ i : Fin 3, ∑ j : Fin 3, ∑ k : Fin 3, padAt X c (z + i) (y + j) (x + k) * W (ix4 (tapOf i j k) z y x)
  refine sum3_congr fun i j k => ?_
  rw [← around_apply, ← taps_apply W i j k c z y x]
  rfl

/-- The reference's result. -/
def out (A : FVec Ideal S1x8x128x128x128 .f32) (w1 : FVec Ideal S8x8x3x3x3 .f32) (b1 : FVec Ideal S8 .f32)
    (w2 : FVec Ideal S27x8x3x3x3 .f32) : FVec Ideal S8x128x128x128 .f32 :=
  let X : FVec Ideal S8x128x128x128 .f32 := shapeCast _ A shapeCasts_S1x8x128x128x128_S8x128x128x128
  let W := normal (conv (hid X w1 b1) w2)
  adapt (adapt (adapt X W) W) W

/-- The reference's result is the function of `Spec`. -/
theorem out_eq (A : FVec Ideal S1x8x128x128x128 .f32) (w1 : FVec Ideal S8x8x3x3x3 .f32) (b1 : FVec Ideal S8 .f32)
    (w2 : FVec Ideal S27x8x3x3x3 .f32) :
    out A w1 b1 w2 = result (cur4 fun k z y x => A (ix5 0 k z y x)) w1 b1 w2 := by
  have hX : (shapeCast _ A shapeCasts_S1x8x128x128x128_S8x128x128x128 : FVec Ideal S8x128x128x128 .f32)
      = cur4 fun k z y x => A (ix5 0 k z y x) := by
    apply ext4
    intro k z y x
    show _ = A (ix5 0 k z y x)
    rw [← ix4_eq_valueIdx, ← ix5_eq_valueIdx]
    pointwise
  unfold out result
  rw [hX]
  simp only [hid_eq, filters_eq, adapt_eq]

/-- From any memory the reference ends with its result in place, its arguments unchanged and no signal pending. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v136)
          = broadcastInDim S1x8x128x128x128 ![1, 2, 3, 4] bcast_S8x128x128x128_S1x8x128x128x128_1_2_3_4
              (out (m ((c.tc : Thread nD τ).loc main_arg0)) (m ((c.tc : Thread nD τ).loc main_arg1))
                (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.ReferenceIdeal.Own
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.ReferenceIdeal
public import proofs.«01_k».proof.Proof.Whole
public import proofs.«01_k».proof.Proof.KernelValue
public import proofs.«01_k».proof.Proof.RefVal
public import Idealize.ShloMosaic.Lib.Quiescent
public import Idealize.ShloMosaic.Adequacy
public import Idealize.ShloMosaic.Init

@[expose] public section

noncomputable section

namespace Cert.Proof

open Cert.Own
open Idealize.SL.Sem
open Idealize.ShloMosaic hiding ix1 ix2 ix3 ix4 ix5 eq_ix4
open Idealize.ShloMosaic.ValueIdx hiding ix6
open Idealize.ShloMosaic.TcCoe

/-- The kernel runs, and ends with its arguments unchanged and every counter at zero. -/
theorem frame_kernel : Cert.quiescent_Kernel := fun m ρ _ => Cert.Kernel.Gen.frame m ρ

/-- The kernel over the extended reals runs, and ends with its arguments unchanged and every counter at zero. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (Cert.KernelIdeal.Own.run m ρ)

/-- The reference runs, and ends with its arguments unchanged and every counter at zero. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Own.run m ρ)

/-- Over the extended reals the kernel's result is the reference's, from equal arguments. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (broadcastInDim Cert.ReferenceIdeal.S1x8x128x128x128 ![1, 2, 3, 4]
        Cert.ReferenceIdeal.Gen.bcast_S8x128x128x128_S1x8x128x128x128_1_2_3_4
        (Cert.ReferenceIdeal.Own.out (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))) :
        FVec Ideal Cert.ReferenceIdeal.S1x8x128x128x128 .f32)
      = Cert.KernelIdeal.Own.W7 m ρ c (Proc.devRef .tc Cert.KernelIdeal.main_v15) := by
  funext i
  obtain ⟨a, k, z, y, x, rfl⟩ : ∃ (a : Fin 1) (k : Fin 8) (z y x : Fin 128), i = ix5 a k z y x :=
    ⟨i 0, i 1, i 2, i 3, i 4, ValueIdx.eq_ix5 i⟩
  obtain rfl : a = 0 := Subsingleton.elim _ _
  refine Eq.trans ?_ (Cert.KernelIdeal.Own.W7_result m ρ c k z y x).symm
  rw [Cert.ReferenceIdeal.Own.out_eq, ← ix5_eq_valueIdx, ← ix4_eq_valueIdx]
  pointwise
  rfl

/-- From equal arguments kernel and reference end with equal results. -/
theorem agree : Cert.algebraic_KernelIdeal_ReferenceIdeal := by
  intro m g m' g' _ hargs
  refine ⟨fun c => Cert.KernelIdeal.Own.W7 m g c (Proc.devRef .tc Cert.KernelIdeal.main_v15), ?_, ?_⟩
  · exact (θ_run Cert.KernelIdeal.defs _ _).mono
      (fun _ h c => ⟨(h.1 c).2.2.2.2, (h.1 c).1, (h.1 c).2.1, (h.1 c).2.2.1, (h.1 c).2.2.2.1⟩) (Cert.KernelIdeal.Own.run m g)
  · refine (θ_run Cert.ReferenceIdeal.defs _ _).mono (fun _ h c => ⟨(h c).1.trans ?_, (h c).2⟩) (Cert.ReferenceIdeal.Own.run m' g')
    rw [(hargs c).1, (hargs c).2.1, (hargs c).2.2.1, (hargs c).2.2.2]
    exact result_eq m g c

/-- Everything the certificate claims. -/
theorem claim : Cert.Claim :=
  ⟨Cert.Kernel.Gen.facts, Cert.KernelIdeal.Gen.facts, Cert.ReferenceIdeal.Gen.facts,
    frame_kernel, frame_ideal, frame_reference, trivial, agree⟩

end Cert.Proof

end
